-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S2x256x8192 : Shape := ⟨3, ![2, 256, 8192]⟩
abbrev S256x8192 : Shape := ⟨2, ![256, 8192]⟩
abbrev S256x512 : Shape := ⟨2, ![256, 512]⟩
abbrev S2x512x2048 : Shape := ⟨3, ![2, 512, 2048]⟩
abbrev S14 : Shape := ⟨1, ![14]⟩
abbrev S_ : Shape := ⟨0, ![]⟩
abbrev S2 : Shape := ⟨1, ![2]⟩
abbrev S1 : Shape := ⟨1, ![1]⟩
abbrev S1x512x2048 : Shape := ⟨3, ![1, 512, 2048]⟩
abbrev S512x2048 : Shape := ⟨2, ![512, 2048]⟩
abbrev S256x2048 : Shape := ⟨2, ![256, 2048]⟩
abbrev S1x256x2048 : Shape := ⟨3, ![1, 256, 2048]⟩
abbrev S1x256x8192 : Shape := ⟨3, ![1, 256, 8192]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S4096x8192, .f32⟩
  | .local _ .vmem, ⟨0, _⟩ => ⟨S2x256x8192, .f32⟩
  | .local _ .vmem, ⟨1, _⟩ => ⟨S2x256x8192, .f32⟩
  | .local _ .vmem, ⟨2, _⟩ => ⟨S256x8192, .f32⟩
  | .local _ .vmem, ⟨3, _⟩ => ⟨S256x8192, .f32⟩
  | .local _ .vmem, ⟨4, _⟩ => ⟨S256x512, .f32⟩
  | .local _ .vmem, ⟨5, _⟩ => ⟨S256x512, .f32⟩
  | .local _ .vmem, ⟨6, _⟩ => ⟨S2x512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 3 62 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_39 : BitVec 32 := 1#32
  let v46 : BitVec 32 := Scalar.muli v44 c1_i32_39
  let v47 : BitVec 32 := Scalar.addi c0_i32_40 v46
  v47.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_42 : BitVec 32 := 1#32
  let v48 : BitVec 32 := Scalar.muli v30 c1_i32_42
  let v49 : BitVec 32 := Scalar.addi c0_i32_43 v48
  v49.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let c512_i32 : BitVec 32 := 512#32
  let v50 : BitVec 32 := Scalar.muli v16 c512_i32
  let c0_i32_46 : BitVec 32 := 0#32
  ![v50.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let c512_i32_45 : BitVec 32 := 512#32
  let v51 : BitVec 32 := Scalar.muli v16 c512_i32_45
  let c256_i32 : BitVec 32 := 256#32
  let v52 : BitVec 32 := Scalar.addi v51 c256_i32
  let c0_i32_47 : BitVec 32 := 0#32
  ![v52.toNat, 0]
def k0_dev3 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_153 : BitVec 32 := 1#32
  let v145 : BitVec 32 := Scalar.muli v30 c1_i32_153
  let v146 : BitVec 32 := Scalar.addi c0_i32_154 v145
  v146.toNat
def k0_dev4 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_163 : BitVec 32 := 1#32
  let v155 : BitVec 32 := Scalar.muli v44 c1_i32_163
  let v156 : BitVec 32 := Scalar.addi c0_i32_164 v155
  v156.toNat
def k0_off3 (d0 : Dev nD) (c0_i32_169 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let v165 : BitVec 32 := Scalar.subi v16 c0_i32_169
  let c1_i32_170 : BitVec 32 := 1#32
  let v166 : BitVec 32 := Scalar.subi v165 c1_i32_170
  let c8_i32_171 : BitVec 32 := 8#32
  let c0_i32_172 : BitVec 32 := 0#32
  let v167 : BitVec 1 := Scalar.cmpi .eq c8_i32_171 c0_i32_172
  let c1_i32_173 : BitVec 32 := 1#32
  let v168 : BitVec 32 := Scalar.select v167 c1_i32_173 c8_i32_171
  let v169 : BitVec 32 := Scalar.remsi v166 v168
  let c0_i32_175 : BitVec 32 := 0#32
  let v171 : BitVec 1 := Scalar.cmpi .slt v169 c0_i32_175
  let c0_i32_176 : BitVec 32 := 0#32
  let v172 : BitVec 1 := Scalar.cmpi .slt v168 c0_i32_176
  let v173 : BitVec 1 := Scalar.xori v171 v172
  let c0_i32_174 : BitVec 32 := 0#32
  let v170 : BitVec 1 := Scalar.cmpi .ne v169 c0_i32_174
  let v174 : BitVec 1 := Scalar.andi v173 v170
  let v175 : BitVec 32 := Scalar.addi v169 v168
  let v176 : BitVec 32 := Scalar.select v174 v175 v169
  let c512_i32_185 : BitVec 32 := 512#32
  let v189 : BitVec 32 := Scalar.muli v176 c512_i32_185
  let c0_i32_188 : BitVec 32 := 0#32
  ![v189.toNat, 0]
def k0_off4 (d0 : Dev nD) (c0_i32_177 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let v177 : BitVec 32 := Scalar.addi v16 c0_i32_177
  let c1_i32_178 : BitVec 32 := 1#32
  let v178 : BitVec 32 := Scalar.addi v177 c1_i32_178
  let c8_i32_179 : BitVec 32 := 8#32
  let c0_i32_180 : BitVec 32 := 0#32
  let v179 : BitVec 1 := Scalar.cmpi .eq c8_i32_179 c0_i32_180
  let c1_i32_181 : BitVec 32 := 1#32
  let v180 : BitVec 32 := Scalar.select v179 c1_i32_181 c8_i32_179
  let v181 : BitVec 32 := Scalar.remsi v178 v180
  let c0_i32_183 : BitVec 32 := 0#32
  let v183 : BitVec 1 := Scalar.cmpi .slt v181 c0_i32_183
  let c0_i32_184 : BitVec 32 := 0#32
  let v184 : BitVec 1 := Scalar.cmpi .slt v180 c0_i32_184
  let v185 : BitVec 1 := Scalar.xori v183 v184
  let c0_i32_182 : BitVec 32 := 0#32
  let v182 : BitVec 1 := Scalar.cmpi .ne v181 c0_i32_182
  let v186 : BitVec 1 := Scalar.andi v185 v182
  let v187 : BitVec 32 := Scalar.addi v181 v180
  let v188 : BitVec 32 := Scalar.select v186 v187 v181
  let c512_i32_186 : BitVec 32 := 512#32
  let v190 : BitVec 32 := Scalar.muli v188 c512_i32_186
  let c256_i32_187 : BitVec 32 := 256#32
  let v191 : BitVec 32 := Scalar.addi v190 c256_i32_187
  let c0_i32_189 : BitVec 32 := 0#32
  ![v191.toNat, 0]
def k0_dev5 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_331 : BitVec 32 := 1#32
  let v312 : BitVec 32 := Scalar.muli v44 c1_i32_331
  let v313 : BitVec 32 := Scalar.addi c0_i32_332 v312
  v313.toNat
def k0_dev6 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_334 : BitVec 32 := 1#32
  let v314 : BitVec 32 := Scalar.muli v30 c1_i32_334
  let v315 : BitVec 32 := Scalar.addi c0_i32_335 v314
  v315.toNat
def k0_dev7 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_360 : BitVec 32 := 1#32
  let v330 : BitVec 32 := Scalar.muli v30 c1_i32_360
  let v331 : BitVec 32 := Scalar.addi c0_i32_361 v330
  v331.toNat
def k0_dev8 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_370 : BitVec 32 := 1#32
  let v340 : BitVec 32 := Scalar.muli v44 c1_i32_370
  let v341 : BitVec 32 := Scalar.addi c0_i32_371 v340
  v341.toNat
def k0_dev9 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_538 : BitVec 32 := 1#32
  let v497 : BitVec 32 := Scalar.muli v44 c1_i32_538
  let v498 : BitVec 32 := Scalar.addi c0_i32_539 v497
  v498.toNat
def k0_dev10 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_541 : BitVec 32 := 1#32
  let v499 : BitVec 32 := Scalar.muli v30 c1_i32_541
  let v500 : BitVec 32 := Scalar.addi c0_i32_542 v499
  v500.toNat
def k0_dev11 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_567 : BitVec 32 := 1#32
  let v515 : BitVec 32 := Scalar.muli v30 c1_i32_567
  let v516 : BitVec 32 := Scalar.addi c0_i32_568 v515
  v516.toNat
def k0_dev12 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_577 : BitVec 32 := 1#32
  let v525 : BitVec 32 := Scalar.muli v44 c1_i32_577
  let v526 : BitVec 32 := Scalar.addi c0_i32_578 v525
  v526.toNat
def k0_dev13 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_745 : BitVec 32 := 1#32
  let v682 : BitVec 32 := Scalar.muli v44 c1_i32_745
  let v683 : BitVec 32 := Scalar.addi c0_i32_746 v682
  v683.toNat
def k0_dev14 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_748 : BitVec 32 := 1#32
  let v684 : BitVec 32 := Scalar.muli v30 c1_i32_748
  let v685 : BitVec 32 := Scalar.addi c0_i32_749 v684
  v685.toNat
def k0_dev15 (d0 : Dev nD) : Nat :=
  let c0_i32_775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_774 : BitVec 32 := 1#32
  let v700 : BitVec 32 := Scalar.muli v30 c1_i32_774
  let v701 : BitVec 32 := Scalar.addi c0_i32_775 v700
  v701.toNat
def k0_dev16 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_784 : BitVec 32 := 1#32
  let v710 : BitVec 32 := Scalar.muli v44 c1_i32_784
  let v711 : BitVec 32 := Scalar.addi c0_i32_785 v710
  v711.toNat
def k0_dev17 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_952 : BitVec 32 := 1#32
  let v867 : BitVec 32 := Scalar.muli v44 c1_i32_952
  let v868 : BitVec 32 := Scalar.addi c0_i32_953 v867
  v868.toNat
def k0_dev18 (d0 : Dev nD) : Nat :=
  let c0_i32_956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_955 : BitVec 32 := 1#32
  let v869 : BitVec 32 := Scalar.muli v30 c1_i32_955
  let v870 : BitVec 32 := Scalar.addi c0_i32_956 v869
  v870.toNat
def k0_dev19 (d0 : Dev nD) : Nat :=
  let c0_i32_982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_981 : BitVec 32 := 1#32
  let v885 : BitVec 32 := Scalar.muli v30 c1_i32_981
  let v886 : BitVec 32 := Scalar.addi c0_i32_982 v885
  v886.toNat
def k0_dev20 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_991 : BitVec 32 := 1#32
  let v895 : BitVec 32 := Scalar.muli v44 c1_i32_991
  let v896 : BitVec 32 := Scalar.addi c0_i32_992 v895
  v896.toNat
def k0_dev21 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1159 : BitVec 32 := 1#32
  let v1052 : BitVec 32 := Scalar.muli v44 c1_i32_1159
  let v1053 : BitVec 32 := Scalar.addi c0_i32_1160 v1052
  v1053.toNat
def k0_dev22 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1162 : BitVec 32 := 1#32
  let v1054 : BitVec 32 := Scalar.muli v30 c1_i32_1162
  let v1055 : BitVec 32 := Scalar.addi c0_i32_1163 v1054
  v1055.toNat
def k0_dev23 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1188 : BitVec 32 := 1#32
  let v1070 : BitVec 32 := Scalar.muli v30 c1_i32_1188
  let v1071 : BitVec 32 := Scalar.addi c0_i32_1189 v1070
  v1071.toNat
def k0_dev24 (d0 : Dev nD) : Nat :=
  let c0_i32_1199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1198 : BitVec 32 := 1#32
  let v1080 : BitVec 32 := Scalar.muli v44 c1_i32_1198
  let v1081 : BitVec 32 := Scalar.addi c0_i32_1199 v1080
  v1081.toNat
def k0_dev25 (d0 : Dev nD) : Nat :=
  let c0_i32_1367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1366 : BitVec 32 := 1#32
  let v1237 : BitVec 32 := Scalar.muli v44 c1_i32_1366
  let v1238 : BitVec 32 := Scalar.addi c0_i32_1367 v1237
  v1238.toNat
def k0_dev26 (d0 : Dev nD) : Nat :=
  let c0_i32_1370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1369 : BitVec 32 := 1#32
  let v1239 : BitVec 32 := Scalar.muli v30 c1_i32_1369
  let v1240 : BitVec 32 := Scalar.addi c0_i32_1370 v1239
  v1240.toNat
def k0_dev27 (d0 : Dev nD) : Nat :=
  let c0_i32_1396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1395 : BitVec 32 := 1#32
  let v1255 : BitVec 32 := Scalar.muli v30 c1_i32_1395
  let v1256 : BitVec 32 := Scalar.addi c0_i32_1396 v1255
  v1256.toNat
def k0_dev28 (d0 : Dev nD) : Nat :=
  let c0_i32_1406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1405 : BitVec 32 := 1#32
  let v1265 : BitVec 32 := Scalar.muli v44 c1_i32_1405
  let v1266 : BitVec 32 := Scalar.addi c0_i32_1406 v1265
  v1266.toNat
def k0_dev29 (d0 : Dev nD) : Nat :=
  let c0_i32_1574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1573 : BitVec 32 := 1#32
  let v1422 : BitVec 32 := Scalar.muli v44 c1_i32_1573
  let v1423 : BitVec 32 := Scalar.addi c0_i32_1574 v1422
  v1423.toNat
def k0_dev30 (d0 : Dev nD) : Nat :=
  let c0_i32_1577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1576 : BitVec 32 := 1#32
  let v1424 : BitVec 32 := Scalar.muli v30 c1_i32_1576
  let v1425 : BitVec 32 := Scalar.addi c0_i32_1577 v1424
  v1425.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let c1_i32_1614 : BitVec 32 := 1#32
  let v1476 : BitVec 32 := Scalar.addi v16 c1_i32_1614
  let c8_i32_1615 : BitVec 32 := 8#32
  let c0_i32_1616 : BitVec 32 := 0#32
  let v1477 : BitVec 1 := Scalar.cmpi .eq c8_i32_1615 c0_i32_1616
  let c1_i32_1617 : BitVec 32 := 1#32
  let v1478 : BitVec 32 := Scalar.select v1477 c1_i32_1617 c8_i32_1615
  let v1479 : BitVec 32 := Scalar.remsi v1476 v1478
  let c0_i32_1619 : BitVec 32 := 0#32
  let v1481 : BitVec 1 := Scalar.cmpi .slt v1479 c0_i32_1619
  let c0_i32_1620 : BitVec 32 := 0#32
  let v1482 : BitVec 1 := Scalar.cmpi .slt v1478 c0_i32_1620
  let v1483 : BitVec 1 := Scalar.xori v1481 v1482
  let c0_i32_1618 : BitVec 32 := 0#32
  let v1480 : BitVec 1 := Scalar.cmpi .ne v1479 c0_i32_1618
  let v1484 : BitVec 1 := Scalar.andi v1483 v1480
  let v1485 : BitVec 32 := Scalar.addi v1479 v1478
  let v1486 : BitVec 32 := Scalar.select v1484 v1485 v1479
  let c512_i32_1621 : BitVec 32 := 512#32
  let v1487 : BitVec 32 := Scalar.muli v1486 c512_i32_1621
  let c0_i32_1632 : BitVec 32 := 0#32
  ![v1487.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let c1_i32_1622 : BitVec 32 := 1#32
  let v1488 : BitVec 32 := Scalar.subi v16 c1_i32_1622
  let c8_i32_1623 : BitVec 32 := 8#32
  let c0_i32_1624 : BitVec 32 := 0#32
  let v1489 : BitVec 1 := Scalar.cmpi .eq c8_i32_1623 c0_i32_1624
  let c1_i32_1625 : BitVec 32 := 1#32
  let v1490 : BitVec 32 := Scalar.select v1489 c1_i32_1625 c8_i32_1623
  let v1491 : BitVec 32 := Scalar.remsi v1488 v1490
  let c0_i32_1627 : BitVec 32 := 0#32
  let v1493 : BitVec 1 := Scalar.cmpi .slt v1491 c0_i32_1627
  let c0_i32_1628 : BitVec 32 := 0#32
  let v1494 : BitVec 1 := Scalar.cmpi .slt v1490 c0_i32_1628
  let v1495 : BitVec 1 := Scalar.xori v1493 v1494
  let c0_i32_1626 : BitVec 32 := 0#32
  let v1492 : BitVec 1 := Scalar.cmpi .ne v1491 c0_i32_1626
  let v1496 : BitVec 1 := Scalar.andi v1495 v1492
  let v1497 : BitVec 32 := Scalar.addi v1491 v1490
  let v1498 : BitVec 32 := Scalar.select v1496 v1497 v1491
  let c512_i32_1629 : BitVec 32 := 512#32
  let v1499 : BitVec 32 := Scalar.muli v1498 c512_i32_1629
  let c256_i32_1630 : BitVec 32 := 256#32
  let v1500 : BitVec 32 := Scalar.addi v1499 c256_i32_1630
  let c0_i32_1636 : BitVec 32 := 0#32
  ![v1500.toNat, 0]
def k0_dev31 (d0 : Dev nD) : Nat :=
  let c0_i32_1648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1647 : BitVec 32 := 1#32
  let v1507 : BitVec 32 := Scalar.muli v30 c1_i32_1647
  let v1508 : BitVec 32 := Scalar.addi c0_i32_1648 v1507
  v1508.toNat
def k0_dev32 (d0 : Dev nD) : Nat :=
  let c0_i32_1658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1657 : BitVec 32 := 1#32
  let v1517 : BitVec 32 := Scalar.muli v44 c1_i32_1657
  let v1518 : BitVec 32 := Scalar.addi c0_i32_1658 v1517
  v1518.toNat
def k0_dev33 (d0 : Dev nD) : Nat :=
  let c0_i32_1711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1710 : BitVec 32 := 1#32
  let v1561 : BitVec 32 := Scalar.muli v44 c1_i32_1710
  let v1562 : BitVec 32 := Scalar.addi c0_i32_1711 v1561
  v1562.toNat
def k0_dev34 (d0 : Dev nD) : Nat :=
  let c0_i32_1714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1713 : BitVec 32 := 1#32
  let v1563 : BitVec 32 := Scalar.muli v30 c1_i32_1713
  let v1564 : BitVec 32 := Scalar.addi c0_i32_1714 v1563
  v1564.toNat
def k0_off7 (d0 : Dev nD) (c0_i32_1715 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let v1565 : BitVec 32 := Scalar.subi v16 c0_i32_1715
  let c8_i32_1716 : BitVec 32 := 8#32
  let c0_i32_1717 : BitVec 32 := 0#32
  let v1566 : BitVec 1 := Scalar.cmpi .eq c8_i32_1716 c0_i32_1717
  let c1_i32_1718 : BitVec 32 := 1#32
  let v1567 : BitVec 32 := Scalar.select v1566 c1_i32_1718 c8_i32_1716
  let v1568 : BitVec 32 := Scalar.remsi v1565 v1567
  let c0_i32_1720 : BitVec 32 := 0#32
  let v1570 : BitVec 1 := Scalar.cmpi .slt v1568 c0_i32_1720
  let c0_i32_1721 : BitVec 32 := 0#32
  let v1571 : BitVec 1 := Scalar.cmpi .slt v1567 c0_i32_1721
  let v1572 : BitVec 1 := Scalar.xori v1570 v1571
  let c0_i32_1719 : BitVec 32 := 0#32
  let v1569 : BitVec 1 := Scalar.cmpi .ne v1568 c0_i32_1719
  let v1573 : BitVec 1 := Scalar.andi v1572 v1569
  let v1574 : BitVec 32 := Scalar.addi v1568 v1567
  let v1575 : BitVec 32 := Scalar.select v1573 v1574 v1568
  let c512_i32_1722 : BitVec 32 := 512#32
  let v1576 : BitVec 32 := Scalar.muli v1575 c512_i32_1722
  let c0_i32_1733 : BitVec 32 := 0#32
  ![v1576.toNat, 0]
def k0_off8 (d0 : Dev nD) (c0_i32_1723 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c4_i32_7 : BitVec 32 := 4#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c7_i32 : BitVec 32 := 7#32
  let c3_i32 : BitVec 32 := 3#32
  let v7 : BitVec 1 := Scalar.cmpi .eq v2 c3_i32
  let c3_i32_3 : BitVec 32 := 3#32
  let c2_i32 : BitVec 32 := 2#32
  let v5 : BitVec 1 := Scalar.cmpi .eq v2 c2_i32
  let c2_i32_2 : BitVec 32 := 2#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c2_i32_2 v4
  let v8 : BitVec 32 := Scalar.select v7 c3_i32_3 v6
  let v10 : BitVec 32 := Scalar.select v9 c7_i32 v8
  let v12 : BitVec 32 := Scalar.select v11 c6_i32 v10
  let v14 : BitVec 32 := Scalar.select v13 c5_i32_5 v12
  let v16 : BitVec 32 := Scalar.select v15 c4_i32_7 v14
  let v1577 : BitVec 32 := Scalar.addi v16 c0_i32_1723
  let c8_i32_1724 : BitVec 32 := 8#32
  let c0_i32_1725 : BitVec 32 := 0#32
  let v1578 : BitVec 1 := Scalar.cmpi .eq c8_i32_1724 c0_i32_1725
  let c1_i32_1726 : BitVec 32 := 1#32
  let v1579 : BitVec 32 := Scalar.select v1578 c1_i32_1726 c8_i32_1724
  let v1580 : BitVec 32 := Scalar.remsi v1577 v1579
  let c0_i32_1728 : BitVec 32 := 0#32
  let v1582 : BitVec 1 := Scalar.cmpi .slt v1580 c0_i32_1728
  let c0_i32_1729 : BitVec 32 := 0#32
  let v1583 : BitVec 1 := Scalar.cmpi .slt v1579 c0_i32_1729
  let v1584 : BitVec 1 := Scalar.xori v1582 v1583
  let c0_i32_1727 : BitVec 32 := 0#32
  let v1581 : BitVec 1 := Scalar.cmpi .ne v1580 c0_i32_1727
  let v1585 : BitVec 1 := Scalar.andi v1584 v1581
  let v1586 : BitVec 32 := Scalar.addi v1580 v1579
  let v1587 : BitVec 32 := Scalar.select v1585 v1586 v1580
  let c512_i32_1730 : BitVec 32 := 512#32
  let v1588 : BitVec 32 := Scalar.muli v1587 c512_i32_1730
  let c256_i32_1731 : BitVec 32 := 256#32
  let v1589 : BitVec 32 := Scalar.addi v1588 c256_i32_1731
  let c0_i32_1737 : BitVec 32 := 0#32
  ![v1589.toNat, 0]
def k0_dev35 (d0 : Dev nD) : Nat :=
  let c0_i32_1749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1748 : BitVec 32 := 1#32
  let v1596 : BitVec 32 := Scalar.muli v30 c1_i32_1748
  let v1597 : BitVec 32 := Scalar.addi c0_i32_1749 v1596
  v1597.toNat
def k0_dev36 (d0 : Dev nD) : Nat :=
  let c0_i32_1759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1758 : BitVec 32 := 1#32
  let v1606 : BitVec 32 := Scalar.muli v44 c1_i32_1758
  let v1607 : BitVec 32 := Scalar.addi c0_i32_1759 v1606
  v1607.toNat
def k0_dev37 (d0 : Dev nD) : Nat :=
  let c0_i32_1812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1811 : BitVec 32 := 1#32
  let v1650 : BitVec 32 := Scalar.muli v44 c1_i32_1811
  let v1651 : BitVec 32 := Scalar.addi c0_i32_1812 v1650
  v1651.toNat
def k0_dev38 (d0 : Dev nD) : Nat :=
  let c0_i32_1815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1814 : BitVec 32 := 1#32
  let v1652 : BitVec 32 := Scalar.muli v30 c1_i32_1814
  let v1653 : BitVec 32 := Scalar.addi c0_i32_1815 v1652
  v1653.toNat
def k0_dev39 (d0 : Dev nD) : Nat :=
  let c0_i32_1849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1848 : BitVec 32 := 1#32
  let v1685 : BitVec 32 := Scalar.muli v30 c1_i32_1848
  let v1686 : BitVec 32 := Scalar.addi c0_i32_1849 v1685
  v1686.toNat
def k0_dev40 (d0 : Dev nD) : Nat :=
  let c0_i32_1859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1858 : BitVec 32 := 1#32
  let v1695 : BitVec 32 := Scalar.muli v44 c1_i32_1858
  let v1696 : BitVec 32 := Scalar.addi c0_i32_1859 v1695
  v1696.toNat
def k0_dev41 (d0 : Dev nD) : Nat :=
  let c0_i32_1912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1911 : BitVec 32 := 1#32
  let v1739 : BitVec 32 := Scalar.muli v44 c1_i32_1911
  let v1740 : BitVec 32 := Scalar.addi c0_i32_1912 v1739
  v1740.toNat
def k0_dev42 (d0 : Dev nD) : Nat :=
  let c0_i32_1915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1914 : BitVec 32 := 1#32
  let v1741 : BitVec 32 := Scalar.muli v30 c1_i32_1914
  let v1742 : BitVec 32 := Scalar.addi c0_i32_1915 v1741
  v1742.toNat
def k0_dev43 (d0 : Dev nD) : Nat :=
  let c0_i32_1949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1948 : BitVec 32 := 1#32
  let v1774 : BitVec 32 := Scalar.muli v30 c1_i32_1948
  let v1775 : BitVec 32 := Scalar.addi c0_i32_1949 v1774
  v1775.toNat
def k0_dev44 (d0 : Dev nD) : Nat :=
  let c0_i32_1959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_1958 : BitVec 32 := 1#32
  let v1784 : BitVec 32 := Scalar.muli v44 c1_i32_1958
  let v1785 : BitVec 32 := Scalar.addi c0_i32_1959 v1784
  v1785.toNat
def k0_dev45 (d0 : Dev nD) : Nat :=
  let c0_i32_2012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_2011 : BitVec 32 := 1#32
  let v1828 : BitVec 32 := Scalar.muli v44 c1_i32_2011
  let v1829 : BitVec 32 := Scalar.addi c0_i32_2012 v1828
  v1829.toNat
def k0_dev46 (d0 : Dev nD) : Nat :=
  let c0_i32_2015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_2014 : BitVec 32 := 1#32
  let v1830 : BitVec 32 := Scalar.muli v30 c1_i32_2014
  let v1831 : BitVec 32 := Scalar.addi c0_i32_2015 v1830
  v1831.toNat
def k0_dev47 (d0 : Dev nD) : Nat :=
  let c0_i32_2049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_2048 : BitVec 32 := 1#32
  let v1863 : BitVec 32 := Scalar.muli v30 c1_i32_2048
  let v1864 : BitVec 32 := Scalar.addi c0_i32_2049 v1863
  v1864.toNat
def k0_dev48 (d0 : Dev nD) : Nat :=
  let c0_i32_2059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_2058 : BitVec 32 := 1#32
  let v1873 : BitVec 32 := Scalar.muli v44 c1_i32_2058
  let v1874 : BitVec 32 := Scalar.addi c0_i32_2059 v1873
  v1874.toNat
def k0_dev49 (d0 : Dev nD) : Nat :=
  let c0_i32_2112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_2111 : BitVec 32 := 1#32
  let v1917 : BitVec 32 := Scalar.muli v44 c1_i32_2111
  let v1918 : BitVec 32 := Scalar.addi c0_i32_2112 v1917
  v1918.toNat
def k0_dev50 (d0 : Dev nD) : Nat :=
  let c0_i32_2115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_2114 : BitVec 32 := 1#32
  let v1919 : BitVec 32 := Scalar.muli v30 c1_i32_2114
  let v1920 : BitVec 32 := Scalar.addi c0_i32_2115 v1919
  v1920.toNat
def k0_dev51 (d0 : Dev nD) : Nat :=
  let c0_i32_2149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_2148 : BitVec 32 := 1#32
  let v1952 : BitVec 32 := Scalar.muli v30 c1_i32_2148
  let v1953 : BitVec 32 := Scalar.addi c0_i32_2149 v1952
  v1953.toNat
def k0_dev52 (d0 : Dev nD) : Nat :=
  let c0_i32_2159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_2158 : BitVec 32 := 1#32
  let v1962 : BitVec 32 := Scalar.muli v44 c1_i32_2158
  let v1963 : BitVec 32 := Scalar.addi c0_i32_2159 v1962
  v1963.toNat
def k0_dev53 (d0 : Dev nD) : Nat :=
  let c0_i32_2212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_2211 : BitVec 32 := 1#32
  let v2006 : BitVec 32 := Scalar.muli v44 c1_i32_2211
  let v2007 : BitVec 32 := Scalar.addi c0_i32_2212 v2006
  v2007.toNat
def k0_dev54 (d0 : Dev nD) : Nat :=
  let c0_i32_2215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_2214 : BitVec 32 := 1#32
  let v2008 : BitVec 32 := Scalar.muli v30 c1_i32_2214
  let v2009 : BitVec 32 := Scalar.addi c0_i32_2215 v2008
  v2009.toNat
def k0_dev55 (d0 : Dev nD) : Nat :=
  let c0_i32_2249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_2248 : BitVec 32 := 1#32
  let v2041 : BitVec 32 := Scalar.muli v30 c1_i32_2248
  let v2042 : BitVec 32 := Scalar.addi c0_i32_2249 v2041
  v2042.toNat
def k0_dev56 (d0 : Dev nD) : Nat :=
  let c0_i32_2259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c3_i32_37 : BitVec 32 := 3#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c6_i32_33 : BitVec 32 := 6#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c2_i32_29 : BitVec 32 := 2#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c0_i32_24 : BitVec 32 := 0#32
  let c4_i32_25 : BitVec 32 := 4#32
  let v32 : BitVec 32 := Scalar.select v31 c0_i32_24 c4_i32_25
  let v34 : BitVec 32 := Scalar.select v33 c1_i32_27 v32
  let v36 : BitVec 32 := Scalar.select v35 c2_i32_29 v34
  let v38 : BitVec 32 := Scalar.select v37 c5_i32_31 v36
  let v40 : BitVec 32 := Scalar.select v39 c6_i32_33 v38
  let v42 : BitVec 32 := Scalar.select v41 c7_i32_35 v40
  let v44 : BitVec 32 := Scalar.select v43 c3_i32_37 v42
  let c1_i32_2258 : BitVec 32 := 1#32
  let v2051 : BitVec 32 := Scalar.muli v44 c1_i32_2258
  let v2052 : BitVec 32 := Scalar.addi c0_i32_2259 v2051
  v2052.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdealProg.lean ====
/- The kernel body as a sequence of named stages: one tile of a product, a product of a block of rows with the whole
   weight block, one step of the reduce-scatter, the activation, one step of the all-gather. Each stage is a program that
   ends in a continuation, stated once for any step, slot and tile; the printed body is their composition. -/
module

public import proofs.«01_k».proof.Proof.Gen.KernelIdeal.Skeleton
public import proofs.«01_k».proof.Proof.Gen.KernelIdeal.Points

@[expose] public section

set_option maxRecDepth 16384

noncomputable section

namespace Cert.KernelIdeal.Ring

open Idealize.ShloMosaic Idealize.ShloMosaic.TcCoe Idealize.SL.Sem
open Cert.KernelIdeal.Gen

variable {F : FTy → Type} [FloatOps F]

local notation "ℙ" => Prog (TpuEff nD τ sig (Elt F) Λ₀ Proc.tc) PUnit

/-! ## The buffers -/

/-- The device's block of columns of `x`. -/
abbrev xM : Memref sig .tc .hbm S4096x512 .f32 := Memref.whole main_arg0
/-- The device's block of rows of `w_mat`. -/
abbrev wM : Memref sig .tc .hbm S512x8192 .f32 := Memref.whole main_arg1
/-- The result. -/
abbrev oM : Memref sig .tc .hbm S4096x8192 .f32 := Memref.whole main_v1
/-- The two-slot buffer of each direction: `true` travels to the right, `false` to the left. -/
abbrev bufM (h : Bool) : Memref sig .tc .vmem S2x256x8192 .f32 := match h with | true => Memref.whole cc0_scratch0 | false => Memref.whole cc0_scratch1
/-- The device's own product of the current step, of each direction. -/
abbrev locM (h : Bool) : Memref sig .tc .vmem S256x8192 .f32 := match h with | true => Memref.whole cc0_scratch2 | false => Memref.whole cc0_scratch3
/-- The rows of `x` of the current product, of each direction. -/
abbrev xrM (h : Bool) : Memref sig .tc .vmem S256x512 .f32 := match h with | true => Memref.whole cc0_scratch4 | false => Memref.whole cc0_scratch5
/-- The two staged column tiles of the weights. -/
abbrev wsM : Memref sig .tc .vmem S2x512x2048 .f32 := Memref.whole cc0_scratch6

theorem inb_slot (p : Fin 2) : ∀ a, (![p.val, 0, 0] : Fin 3 → ℕ) a + S1x256x8192.size a ≤ S2x256x8192.size a := by revert p; decide
theorem inb_wslot (p : Fin 2) : ∀ a, (![p.val, 0, 0] : Fin 3 → ℕ) a + S1x512x2048.size a ≤ S2x512x2048.size a := by revert p; decide
theorem inb_wcol (j : Fin 4) : ∀ a, (![0, 2048 * j.val] : Fin 2 → ℕ) a + S512x2048.size a ≤ S512x8192.size a := by revert j; decide
theorem inb_tile3 (j : Fin 4) : ∀ a, (![0, 0, 2048 * j.val] : Fin 3 → ℕ) a + S1x256x2048.size a ≤ S2x256x8192.size a := by revert j; decide
theorem inb_tile2 (j : Fin 4) : ∀ a, (![0, 2048 * j.val] : Fin 2 → ℕ) a + S256x2048.size a ≤ S256x8192.size a := by revert j; decide

/-- The rectangle of slot `p` of a two-slot buffer. -/
abbrev rSlot (p : Fin 2) : Rect S2x256x8192 := Rect.unit (s := S2x256x8192) ![p.val, 0, 0] S1x256x8192.size (inb_slot p)
/-- The rectangle of slot `p` of the staged weights. -/
abbrev rWs (p : Fin 2) : Rect S2x512x2048 := Rect.unit (s := S2x512x2048) ![p.val, 0, 0] S1x512x2048.size (inb_wslot p)
/-- The rectangle of column tile `j` of the weights. -/
abbrev rWc (j : Fin 4) : Rect S512x8192 := Rect.unit (s := S512x8192) ![0, 2048 * j.val] S512x2048.size (inb_wcol j)
/-- The rectangle of column tile `j` of slot 0. -/
abbrev rT3 (j : Fin 4) : Rect S2x256x8192 := Rect.unit (s := S2x256x8192) ![0, 0, 2048 * j.val] S1x256x2048.size (inb_tile3 j)
/-- The rectangle of column tile `j` of a product. -/
abbrev rT2 (j : Fin 4) : Rect S256x8192 := Rect.unit (s := S256x8192) ![0, 2048 * j.val] S256x2048.size (inb_tile2 j)
/-- The whole rectangles. -/
abbrev rX : Rect S256x512 := Rect.unit (s := S256x512) ![0, 0] S256x512.size inb_S256x512_S256x512_0_0
abbrev rL : Rect S256x8192 := Rect.unit (s := S256x8192) ![0, 0] S256x8192.size inb_S256x8192_S256x8192_0_0

/-- Slot `p` of a direction's buffer. -/
abbrev slotM (h : Bool) (p : Fin 2) : Memref sig .tc .vmem S256x8192 .f32 :=
  ((bufM h).slice (rSlot p) (fun _ => rfl)).squeeze S256x8192 squeezes_S1x256x8192_S256x8192
/-- Slot `p` of the staged weights. -/
abbrev wslotM (p : Fin 2) : Memref sig .tc .vmem S512x2048 .f32 :=
  (wsM.slice (rWs p) (fun _ => rfl)).squeeze S512x2048 squeezes_S1x512x2048_S512x2048
/-- Column tile `j` of the weights. -/
abbrev wcolM (j : Fin 4) : Memref sig .tc .hbm S512x2048 .f32 := wM.slice (rWc j) (fun _ => rfl)
/-- 256 rows of `x` at an offset. -/
abbrev xrowM (off : Fin 2 → ℕ) (hb : ∀ a, off a + S256x512.size a ≤ S4096x512.size a) : Memref sig .tc .hbm S256x512 .f32 :=
  xM.slice (Rect.unit (s := S4096x512) off S256x512.size hb) (fun _ => rfl)
/-- 256 rows of the result at an offset. -/
abbrev orowM (off : Fin 2 → ℕ) (hb : ∀ a, off a + S256x8192.size a ≤ S4096x8192.size a) : Memref sig .tc .hbm S256x8192 .f32 :=
  oM.slice (Rect.unit (s := S4096x8192) off S256x8192.size hb) (fun _ => rfl)

/-! ## The semaphores -/

/-- The send semaphore of transfer `k` in a direction. -/
abbrev sendS (h : Bool) (k : Fin 14) : DmaSem sig := match h with
  | true => ⟨k.val, Nat.lt_of_lt_of_le k.isLt (by decide)⟩ | false => ⟨k.val + 28, Nat.lt_of_lt_of_le (Nat.add_lt_add_right k.isLt 28) (by decide)⟩
/-- The receive semaphore of transfer `k` in a direction. -/
abbrev recvS (h : Bool) (k : Fin 14) : DmaSem sig := match h with
  | true => ⟨k.val + 14, Nat.lt_of_lt_of_le (Nat.add_lt_add_right k.isLt 14) (by decide)⟩ | false => ⟨k.val + 42, Nat.lt_of_lt_of_le (Nat.add_lt_add_right k.isLt 42) (by decide)⟩
abbrev xS (h : Bool) : DmaSem sig := match h with | true => ⟨56, by decide⟩ | false => ⟨57, by decide⟩
abbrev wS (p : Fin 2) : DmaSem sig := ⟨p.val + 58, Nat.lt_of_lt_of_le (Nat.add_lt_add_right p.isLt 58) (by decide)⟩
abbrev stS (h : Bool) : DmaSem sig := match h with | true => ⟨60, by decide⟩ | false => ⟨61, by decide⟩
/-- The acknowledgement semaphore of a direction. -/
abbrev ackS (h : Bool) : Sem sig := match h with | true => cc0_scratch16.sem | false => cc0_scratch17.sem
abbrev barS : Sem sig := (SemArray.scalar (sig.barrier 0 rfl) : Sems sig S_).sem

/-! ## The neighbours -/

/-- The neighbour a direction's transfers go to: `true` the right one, `false` the left one. -/
abbrev peer (h : Bool) (d : Dev nD) : Dev nD := match h with | true => ⟨k0_dev3 d, k0_dev3_lt d⟩ | false => ⟨k0_dev4 d, k0_dev4_lt d⟩

/-! ## The pure steps -/

/-- The product of 256 rows with a staged column tile. -/
def prodT (w : Vec F S1x512x2048 .f32) (x : Vec F S256x512 .f32) : FVec F S256x2048 .f32 :=
  matmul dot_S256x512_S512x2048_S256x2048_1_0_0_1_n_n none x (shapeCast S512x2048 w shapeCasts_S1x512x2048_S512x2048) (constant S256x2048 .f32 0x00000000#32)
/-- A received slot plus the device's own product. -/
def sumT (b : Vec F S1x256x8192 .f32) (l : Vec F S256x8192 .f32) : FVec F S1x256x8192 .f32 :=
  shapeCast S1x256x8192 (addf (shapeCast S256x8192 b shapeCasts_S1x256x8192_S256x8192) l) shapeCasts_S256x8192_S1x256x8192
/-- The activation of a block of rows. -/
def gelu (y : FVec F S256x8192 .f32) : FVec F S256x8192 .f32 :=
  mulf (mulf (broadcast S256x8192 (Scalar.ofBits .f32 0x3F000000#32)) y)
    (addf (broadcast S256x8192 (Scalar.ofBits .f32 0x3F800000#32))
      (tanh (mulf (broadcast S256x8192 (Scalar.ofBits .f32 0x3F4C422A#32))
        (addf y (mulf (mulf (mulf (broadcast S256x8192 (Scalar.ofBits .f32 0x3D372713#32)) y) y) y)))))
def geluT (b : Vec F S1x256x8192 .f32) : FVec F S1x256x8192 .f32 :=
  shapeCast S1x256x8192 (gelu (shapeCast S256x8192 b shapeCasts_S1x256x8192_S256x8192)) shapeCasts_S256x8192_S1x256x8192

/-! ## The stages -/

/-- Start of a local copy of a rectangle of one array to a whole buffer. -/
abbrev xLoad (h : Bool) (off : Fin 2 → ℕ) (hb : ∀ a, off a + S256x512.size a ≤ S4096x512.size a) (k : ℙ) : ℙ :=
  .op (.enqueueDma (xrowM off hb) (.here (xrM h)) (.dma (xS h)) (View.wordExact_bits rfl)
    (by cases h <;> exact (Memref.isWhole_whole _).wordExact) ⟨Or.inl rfl, trivial⟩) fun _ => k
abbrev xWait (h : Bool) (off : Fin 2 → ℕ) (hb : ∀ a, off a + S256x512.size a ≤ S4096x512.size a) (k : ℙ) : ℙ :=
  .op (.waitDma2 (xS h) (xrowM off hb) (xrM h) (View.wordExact_bits rfl) (by cases h <;> exact (Memref.isWhole_whole _).wordExact)) fun _ => k
/-- Start of the copy of weight column tile `j` into slot `p`. -/
abbrev wLoad (j : Fin 4) (p : Fin 2) (k : ℙ) : ℙ :=
  .op (.enqueueDma (wcolM j) (.here (wslotM p)) (.dma (wS p)) (View.wordExact_bits rfl) ((View.wordExact_bits rfl).reshape _ _) ⟨Or.inl rfl, trivial⟩) fun _ => k
abbrev wWait (j : Fin 4) (p : Fin 2) (k : ℙ) : ℙ :=
  .op (.waitDma2 (wS p) (wcolM j) (wslotM p) (View.wordExact_bits rfl) ((View.wordExact_bits rfl).reshape _ _)) fun _ => k

/-- Where a tile of the product goes: column tile `j` of slot 0 of the direction's buffer, or of its local product. -/
abbrev put (first h : Bool) (j : Fin 4) (y : FVec F S256x2048 .f32) (k : ℙ) : ℙ := match first with
  | true => .op (.load (bufM h) (rT3 j).toLoadRect (View.loadsAt_vmem h_S1x256x2048)) fun _ =>
      .op (.store (bufM h) (rT3 j) (shapeCast S1x256x2048 y shapeCasts_S256x2048_S1x256x2048) Finset.univ (View.stores_vmem_bits_univ h_S1x256x2048 rfl) (.inl rfl)) fun _ => k
  | false => .op (.load (locM h) (rT2 j).toLoadRect (View.loadsAt_vmem h_S256x2048)) fun _ =>
      .op (.store (locM h) (rT2 j) (shapeCast S256x2048 y shapeCasts_S256x2048_S256x2048) Finset.univ (View.stores_vmem_bits_univ h_S256x2048 rfl) (.inl rfl)) fun _ => k

/-- The work on the staged tile in slot `p`: both directions' products with it. -/
abbrev tile (first : Bool) (j : Fin 4) (p : Fin 2) (k : ℙ) : ℙ :=
  .op (.load wsM (rWs p).toLoadRect (View.loadsAt_vmem h_S1x512x2048)) fun w =>
  .op (.load (xrM true) rX.toLoadRect (View.loadsAt_vmem h_S256x512)) fun xa =>
  put first true j (prodT w xa) <|
  .op (.load (xrM false) rX.toLoadRect (View.loadsAt_vmem h_S256x512)) fun xb =>
  put first false j (prodT w xb) k

/-- The product of two blocks of rows (at `oa` and `ob`) with all column tiles, the next tile copied while one is worked on. -/
abbrev gemm (first : Bool) (oa ob : Fin 2 → ℕ) (ha : ∀ a, oa a + S256x512.size a ≤ S4096x512.size a)
    (hb : ∀ a, ob a + S256x512.size a ≤ S4096x512.size a) (k : ℙ) : ℙ :=
  xLoad true oa ha <| xLoad false ob hb <| wLoad 0 0 <| xWait true oa ha <| xWait false ob hb <|
  wWait 0 0 <| wLoad 1 1 <| tile first 0 0 <|
  wWait 1 1 <| wLoad 2 0 <| tile first 1 1 <|
  wWait 2 0 <| wLoad 3 1 <| tile first 2 0 <|
  wWait 3 1 <| tile first 3 1 k

/-- Start of transfer `t` of a direction, from slot `p` to slot `q` of the neighbour. -/
abbrev send (h : Bool) (t : Fin 14) (p q : Fin 2) (d : Dev nD) (k : ℙ) : ℙ := match h with
  | true => .op (.enqueueDma (slotM true p) (.remote (Dev.tc (peer true d)) (slotM true q) (.dma (sendS true t))) (.dma (recvS true t))
      ((View.wordExact_bits rfl).reshape _ _) ((View.wordExact_bits rfl).reshape _ _) ⟨⟨rfl, Or.inl rfl⟩, trivial⟩) fun _ => k
  | false => .op (.enqueueDma (slotM false p) (.remote (Dev.tc (peer false d)) (slotM false q) (.dma (sendS false t))) (.dma (recvS false t))
      ((View.wordExact_bits rfl).reshape _ _) ((View.wordExact_bits rfl).reshape _ _) ⟨⟨rfl, Or.inl rfl⟩, trivial⟩) fun _ => k
theorem slot_wordExact (h : Bool) (p : Fin 2) : (slotM h p).view.WordExact := by
  cases h <;> exact (View.wordExact_bits rfl).reshape _ _
/-- The waits of transfer `t` of a direction: for its own departure, then for the arrival. -/
abbrev sendWait (h : Bool) (t : Fin 14) (p q : Fin 2) (k : ℙ) : ℙ :=
  .op (.waitDma2 (sendS h t) (slotM h q) (slotM h p) (slot_wordExact h q) (slot_wordExact h p)) fun _ =>
  .op (.waitDma2 (recvS h t) (slotM h p) (slotM h q) (slot_wordExact h p) (slot_wordExact h q)) fun _ => k
/-- The acknowledgement that a direction's slot may be written again, to the neighbour its arrivals come from. -/
abbrev ack (h : Bool) (d : Dev nD) (k : ℙ) : ℙ := .op (.semSignal (Dev.tc (peer (!h) d)) (ackS h) ((1#32 : BitVec 32).toInt)) fun _ => k
abbrev ackWait (h : Bool) (k : ℙ) : ℙ := .op (.semWait (ackS h) ((1#32 : BitVec 32).toInt)) fun _ => k

/-- The received slot `q` plus the local product, in place. -/
abbrev accum (h : Bool) (q : Fin 2) (k : ℙ) : ℙ :=
  .op (.load (bufM h) (rSlot q).toLoadRect (View.loadsAt_vmem h_S1x256x8192)) fun b =>
  .op (.load (locM h) rL.toLoadRect (View.loadsAt_vmem h_S256x8192)) fun l =>
  .op (.load (bufM h) (rSlot q).toLoadRect (View.loadsAt_vmem h_S1x256x8192)) fun _ =>
  .op (.store (bufM h) (rSlot q) (sumT b l) Finset.univ (View.stores_vmem_bits_univ h_S1x256x8192 rfl) (.inl rfl)) fun _ => k
/-- The activation of slot 1, in place. -/
abbrev activate (h : Bool) (k : ℙ) : ℙ :=
  .op (.load (bufM h) (rSlot 1).toLoadRect (View.loadsAt_vmem h_S1x256x8192)) fun b =>
  .op (.load (bufM h) (rSlot 1).toLoadRect (View.loadsAt_vmem h_S1x256x8192)) fun _ =>
  .op (.store (bufM h) (rSlot 1) (geluT b) Finset.univ (View.stores_vmem_bits_univ h_S1x256x8192 rfl) (.inl rfl)) fun _ => k

/-- The slot step `s` sends from: the parity of `s`; it sends to the other one. -/
abbrev par (s : ℕ) : Fin 2 := ⟨s % 2, Nat.mod_lt _ (by decide)⟩
abbrev tr1 (s : Fin 7) : Fin 14 := ⟨s.val, by omega⟩
abbrev tr2 (s : Fin 7) : Fin 14 := ⟨s.val + 7, by omega⟩

/-- Step `s` of the reduce-scatter, from its transfers to the sums. -/
abbrev rsStep (s : Fin 7) (d : Dev nD) (k : ℙ) : ℙ :=
  send true (tr1 s) (par s.val) (par (s.val + 1)) d <| send false (tr1 s) (par s.val) (par (s.val + 1)) d <|
  gemm false (k0_off3 d (BitVec.ofNat 32 s.val)) (k0_off4 d (BitVec.ofNat 32 s.val)) (k0_off3_inb d s) (k0_off4_inb d s) <|
  sendWait true (tr1 s) (par s.val) (par (s.val + 1)) <| sendWait false (tr1 s) (par s.val) (par (s.val + 1)) <|
  ack true d <| ack false d <| accum true (par (s.val + 1)) <| accum false (par (s.val + 1)) k

/-- Start of the copy of a direction's slot `p` to rows of the result; and its wait. -/
abbrev oStore (h : Bool) (p : Fin 2) (off : Fin 2 → ℕ) (hb : ∀ a, off a + S256x8192.size a ≤ S4096x8192.size a) (k : ℙ) : ℙ :=
  .op (.enqueueDma (slotM h p) (.here (orowM off hb)) (.dma (stS h)) (slot_wordExact h p) (View.wordExact_bits rfl) ⟨Or.inl rfl, trivial⟩) fun _ => k
abbrev oWait (h : Bool) (p : Fin 2) (off : Fin 2 → ℕ) (hb : ∀ a, off a + S256x8192.size a ≤ S4096x8192.size a) (k : ℙ) : ℙ :=
  .op (.waitDma2 (stS h) (slotM h p) (orowM off hb) (slot_wordExact h p) (View.wordExact_bits rfl)) fun _ => k

/-- The rows of the result a direction's store number `t` writes: number 0 the device's own half chunk, number `t + 1`
    the one received at all-gather step `t`. -/
abbrev oOff (h : Bool) (d : Dev nD) (t : Fin 8) : Fin 2 → ℕ := match h, t with
  | true, ⟨0, _⟩ => k0_off5 d | false, ⟨0, _⟩ => k0_off6 d
  | true, ⟨t + 1, _⟩ => k0_off7 d (BitVec.ofNat 32 t) | false, ⟨t + 1, _⟩ => k0_off8 d (BitVec.ofNat 32 t)
theorem oOff_inb (h : Bool) (d : Dev nD) (t : Fin 8) : ∀ a, oOff h d t a + S256x8192.size a ≤ S4096x8192.size a := by
  obtain ⟨t, ht⟩ := t
  rcases h with _ | _ <;> rcases t with _ | t
  · exact k0_off6_inb d
  · exact k0_off8_inb d ⟨t, by omega⟩
  · exact k0_off5_inb d
  · exact k0_off7_inb d ⟨t, by omega⟩

abbrev ackIf (b : Bool) (d : Dev nD) (k : ℙ) : ℙ := match b with
  | true => ack true d <| ack false d k
  | false => k

/-- Step `t` of the all-gather: `last` says that no acknowledgement follows it. -/
abbrev agStep (t : Fin 7) (more : Bool) (d : Dev nD) (k : ℙ) : ℙ :=
  ackWait true <| ackWait false <|
  send true (tr2 t) (par (t.val + 1)) (par t.val) d <| send false (tr2 t) (par (t.val + 1)) (par t.val) d <|
  sendWait true (tr2 t) (par (t.val + 1)) (par t.val) <| sendWait false (tr2 t) (par (t.val + 1)) (par t.val) <|
  oWait true (par (t.val + 1)) (oOff true d t.castSucc) (oOff_inb true d t.castSucc) <|
  oWait false (par (t.val + 1)) (oOff false d t.castSucc) (oOff_inb false d t.castSucc) <|
  ackIf more d <|
  oStore true (par t.val) (oOff true d t.succ) (oOff_inb true d t.succ) <|
  oStore false (par t.val) (oOff false d t.succ) (oOff_inb false d t.succ) k

/-- The entry barrier. -/
abbrev barrier (d : Dev nD) (k : ℙ) : ℙ :=
  .op (.semSignal (Dev.tc (peer false d)) barS ((1#32 : BitVec 32).toInt)) fun _ =>
  .op (.semSignal (Dev.tc (peer true d)) barS ((1#32 : BitVec 32).toInt)) fun _ =>
  .op (.semWait barS ((2#32 : BitVec 32).toInt)) fun _ => k

abbrev acks (k : ℙ) : ℙ := ackWait true <| ackWait false k

/-- The first half: the barrier, the first product, the seven reduce-scatter steps and the activation. -/
def half1 (d : Dev nD) (k : ℙ) : ℙ :=
  barrier d <|
  gemm true (k0_off1 d) (k0_off2 d) (k0_off1_inb d) (k0_off2_inb d) <|
  rsStep 0 d <| acks <| rsStep 1 d <| acks <| rsStep 2 d <| acks <| rsStep 3 d <| acks <| rsStep 4 d <| acks <| rsStep 5 d <| acks <| rsStep 6 d <|
  activate true <| activate false k

/-- The second half: the seven all-gather steps, each half chunk stored. -/
def half2 (d : Dev nD) (k : ℙ) : ℙ :=
  oStore true 1 (oOff true d 0) (oOff_inb true d 0) <| oStore false 1 (oOff false d 0) (oOff_inb false d 0) <|
  agStep 0 true d <| agStep 1 true d <| agStep 2 true d <| agStep 3 true d <| agStep 4 true d <| agStep 5 true d <| agStep 6 false d <|
  oWait true 0 (oOff true d 7) (oOff_inb true d 7) <| oWait false 0 (oOff false d 7) (oOff_inb false d 7) k

/-- The body, staged. -/
def staged : ℙ := .op .deviceId fun d => half1 d <| half2 d (.ret ⟨⟩)

set_option maxRecDepth 100000 in
/-- The printed body is the staged one. -/
theorem body_eq (t : Fin cfg0.N) : bodyAt0 (F := F) t = staged := by
  rfl

end Cert.KernelIdeal.Ring

end
-- ==== Proof.KernelIdealVals.lean ====
/- What the arrays hold: the product of a block of rows with the weight block, the partial sums of the reduce-scatter
   and the rows the all-gather carries, as functions of the devices' arguments. -/
module

public import proofs.«01_k».proof.Proof.KernelIdealProg
public import Idealize.ShloMosaic.Lib.Memref
public import Idealize.ShloMosaic.Lib.Pipeline.Value

@[expose] public section

set_option maxRecDepth 16384

noncomputable section

namespace Cert.KernelIdeal.Ring

open Idealize.ShloMosaic Idealize.ShloMosaic.TcCoe Idealize.SL.Sem
open Cert.KernelIdeal.Gen

variable {F : FTy → Type} [FloatOps F]

/-! ## The ring of devices -/

/-- The neighbour of a direction's neighbour, in the other direction, is the device. -/
theorem peer_back (h : Bool) (c : Dev nD) : peer (!h) (peer h c) = c := by revert h c; decide
theorem peer_forth (h : Bool) (c : Dev nD) : peer h (peer (!h) c) = c := by revert h c; decide

/-- A direction's neighbour map, as a permutation of the devices. -/
def ring (h : Bool) : Dev nD ≃ Dev nD := ⟨peer h, peer (!h), peer_back h, peer_forth h⟩

/-! ## Products -/

/-- Rows at an offset of a block of columns of `x`. -/
def rowsAt (x : Vec F S4096x512 .f32) (off : Fin 2 → ℕ) (hb : ∀ a, off a + S256x512.size a ≤ S4096x512.size a) : Vec F S256x512 .f32 :=
  fun i => x ((Rect.unit (s := S4096x512) off S256x512.size hb).emb i)

/-- Column tile `j` of a weight block. -/
def colTile (w : Vec F S512x8192 .f32) (j : Fin 4) : Vec F S512x2048 .f32 := fun i => w ((rWc j).emb i)

/-- A column tile as the staging slot presents it. -/
theorem casts_wslot : S512x2048.ShapeCasts S1x512x2048 := by decide
def colSlab (w : Vec F S512x8192 .f32) (j : Fin 4) : Vec F S1x512x2048 .f32 := shapeCast S1x512x2048 (colTile w j) casts_wslot

/-- The column tile a column of the product lies in, and the index within the tile. -/
def tileOf (i : S256x8192.Idx) : Fin 4 := ⟨(i 1).val / 2048, by
  have h := (i 1).isLt
  have h' : (i 1).val < 8192 := h
  omega⟩
def inTile (i : S256x8192.Idx) : S256x2048.Idx := fun
  | ⟨0, _⟩ => ⟨(i 0).val, (i 0).isLt⟩
  | ⟨1, _⟩ => ⟨(i 1).val % 2048, Nat.mod_lt _ (by decide)⟩

/-- The product of 256 rows with a whole weight block, tile by tile. -/
def prodRows (w : Vec F S512x8192 .f32) (x : Vec F S256x512 .f32) : FVec F S256x8192 .f32 :=
  fun i => prodT (colSlab w (tileOf i)) x (inTile i)

theorem rT2_inTile (i : S256x8192.Idx) : (rT2 (tileOf i)).emb (inTile i) = i := by
  refine Shape.idx_ext₂ ?_ ?_
  · show 0 + 1 * (i 0).val = (i 0).val
    omega
  · show 2048 * ((i 1).val / 2048) + 1 * ((i 1).val % 2048) = (i 1).val
    omega

theorem tileOf_emb (j : Fin 4) (k : S256x2048.Idx) : tileOf ((rT2 j).emb k) = j := by
  apply Fin.ext
  have hk : (k 1).val < 2048 := (k 1).isLt
  show (2048 * j.val + 1 * (k 1).val) / 2048 = j.val
  omega
theorem inTile_emb (j : Fin 4) (k : S256x2048.Idx) : inTile ((rT2 j).emb k) = k := by
  have hk : (k 1).val < 2048 := (k 1).isLt
  refine Shape.idx_ext₂ ?_ ?_
  · show 0 + 1 * (k 0).val = (k 0).val
    omega
  · show (2048 * j.val + 1 * (k 1).val) % 2048 = (k 1).val
    omega

theorem not_mem_tile {i : S256x8192.Idx} {j : Fin 4} (h : tileOf i ≠ j) : i ∉ (rT2 j).set := by
  intro hi
  obtain ⟨k, rfl⟩ := (rT2 j).exists_idx_of_mem hi
  exact h (tileOf_emb j k)

/-- A product with column tile `j` replaced. -/
def setTile (j : Fin 4) (y : FVec F S256x2048 .f32) (X : FVec F S256x8192 .f32) : FVec F S256x8192 .f32 := (rT2 j).overlay X y

theorem setTile_apply (j : Fin 4) (y : FVec F S256x2048 .f32) (X : FVec F S256x8192 .f32) (i : S256x8192.Idx) :
    setTile j y X i = if tileOf i = j then y (inTile i) else X i := by
  unfold setTile
  by_cases h : tileOf i = j
  · subst h
    rw [if_pos rfl]
    conv_lhs => rw [← rT2_inTile i]
    rw [tileOf_emb]
    exact Rect.overlay_emb _ _ _ _
  · rw [if_neg h]
    exact Rect.overlay_of_not_mem _ _ _ (not_mem_tile h)

/-- The four tiles, written in turn over any contents, are the product. -/
theorem setTiles (w : Vec F S512x8192 .f32) (x : Vec F S256x512 .f32) (X : FVec F S256x8192 .f32) :
    setTile 3 (prodT (colSlab w 3) x) (setTile 2 (prodT (colSlab w 2) x) (setTile 1 (prodT (colSlab w 1) x) (setTile 0 (prodT (colSlab w 0) x) X)))
      = prodRows w x := by
  funext i
  simp only [setTile_apply, prodRows]
  generalize tileOf i = j
  fin_cases j <;> simp

/-! ## The partial sums and the carried rows -/

variable (m : (ℓ : Loc nD τ sig) → Buf (Elt F) ℓ)

/-- A device's two arguments. -/
def xOf (c : Dev nD) : Vec F S4096x512 .f32 := m ((c : Thread nD τ).loc main_arg0)
def wOf (c : Dev nD) : Vec F S512x8192 .f32 := m ((c : Thread nD τ).loc main_arg1)

/-- The rows of `x` the first product takes, and those of reduce-scatter step `s`. -/
abbrev off0 (h : Bool) (c : Dev nD) : Fin 2 → ℕ := match h with | true => k0_off1 c | false => k0_off2 c
theorem off0_inb (h : Bool) (c : Dev nD) : ∀ a, off0 h c a + S256x512.size a ≤ S4096x512.size a := by
  cases h
  · exact k0_off2_inb c
  · exact k0_off1_inb c
abbrev offS (h : Bool) (c : Dev nD) (s : Fin 7) : Fin 2 → ℕ := match h with
  | true => k0_off3 c (BitVec.ofNat 32 s.val) | false => k0_off4 c (BitVec.ofNat 32 s.val)
theorem offS_inb (h : Bool) (c : Dev nD) (s : Fin 7) : ∀ a, offS h c s a + S256x512.size a ≤ S4096x512.size a := by
  cases h
  · exact k0_off4_inb c s
  · exact k0_off3_inb c s

/-- A device's first product of a direction, and its own product of step `s`. -/
def own0 (h : Bool) (c : Dev nD) : FVec F S256x8192 .f32 := prodRows (wOf m c) (rowsAt (xOf m c) (off0 h c) (off0_inb h c))
def ownS (h : Bool) (s : Fin 7) (c : Dev nD) : FVec F S256x8192 .f32 := prodRows (wOf m c) (rowsAt (xOf m c) (offS h c s) (offS_inb h c s))

/-- A natural number as a step. -/
abbrev f7 (k : ℕ) : Fin 7 := ⟨k % 7, Nat.mod_lt _ (by decide)⟩
theorem f7_val (s : Fin 7) : f7 s.val = s := Fin.ext (Nat.mod_eq_of_lt s.isLt)

/-- The partial sum a device holds before reduce-scatter step `k`: what arrived at the step before plus its own product. -/
def acc (h : Bool) : ℕ → Dev nD → FVec F S256x8192 .f32
  | 0, c => own0 m h c
  | k + 1, c => addf (acc h k (peer (!h) c)) (ownS m h (f7 k) c)

/-- What transfer `k` carries away from device `c`: a partial sum in the reduce-scatter, activated rows in the all-gather. -/
def val (h : Bool) (k : ℕ) (c : Dev nD) : FVec F S256x8192 .f32 :=
  if k < 7 then acc m h k c else gelu (acc m h 7 ((peer (!h))^[k - 7] c))

theorem val_rs (h : Bool) (s : Fin 7) (c : Dev nD) : val m h s.val c = acc m h s.val c := if_pos s.isLt
theorem acc_succ (h : Bool) (s : Fin 7) (c : Dev nD) :
    acc m h (s.val + 1) c = addf (val m h s.val (peer (!h) c)) (ownS m h s c) := by
  rw [val_rs, acc, f7_val]
theorem val_seven (h : Bool) (c : Dev nD) : val m h 7 c = gelu (acc m h 7 c) := if_neg (by decide)
theorem val_succ (h : Bool) {k : ℕ} (hk : 7 ≤ k) (c : Dev nD) : val m h (k + 1) c = val m h k (peer (!h) c) := by
  unfold val
  rw [if_neg (by omega), if_neg (by omega), show k + 1 - 7 = (k - 7) + 1 by omega, Function.iterate_succ_apply]

end Cert.KernelIdeal.Ring

end
-- ==== Proof.KernelIdealSched.lean ====
/- The protocol of the kernel as a schedule of rounds: which signals each semaphore takes, what each of them hands over,
   what a device owes, and the order in which waits may happen. -/
module

public import proofs.«01_k».proof.Proof.KernelIdealVals
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.MemrefSat

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The ghost state: the launch's, the rounds', and the local copies' counters. -/
abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig ℕ (Elt F) ℕ UU ℕ) := countersEmb

variable (m : (ℓ : Loc nD τ sig) → Buf (Elt F) ℓ)

/-! ## The cells -/

/-- What a semaphore is for. -/
inductive Kind where
  | bar | ack (h : Bool) | send (h : Bool) (k : Fin 14) | recv (h : Bool) (k : Fin 14) | other
deriving DecidableEq

/-- A natural number as a transfer. -/
abbrev f14 (k : ℕ) : Fin 14 := ⟨k % 14, Nat.mod_lt _ (by decide)⟩
theorem f14_val (t : Fin 14) : f14 t.val = t := Fin.ext (Nat.mod_eq_of_lt t.isLt)

def kind : SemLoc sig → Kind
  | .reg s => if s = barS then .bar else if s = ackS true then .ack true else if s = ackS false then .ack false else .other
  | .dma s => if s.val < 14 then .send true (f14 s.val) else if s.val < 28 then .recv true (f14 (s.val - 14))
      else if s.val < 42 then .send false (f14 (s.val - 28)) else if s.val < 56 then .recv false (f14 (s.val - 42)) else .other

theorem kind_bar : kind (.reg barS) = .bar := by decide
theorem kind_ack (h : Bool) : kind (.reg (ackS h)) = .ack h := by revert h; decide
theorem kind_send (h : Bool) (k : Fin 14) : kind (.dma (sendS h k)) = .send h k := by revert h k; decide
theorem kind_recv (h : Bool) (k : Fin 14) : kind (.dma (recvS h k)) = .recv h k := by revert h k; decide
theorem kind_x (h : Bool) : kind (.dma (xS h)) = .other := by revert h; decide
theorem kind_w (p : Fin 2) : kind (.dma (wS p)) = .other := by revert p; decide
theorem kind_st (h : Bool) : kind (.dma (stS h)) = .other := by revert h; decide

abbrev barC (c : Dev nD) : GSem nD τ sig := ((c : Thread nD τ), .reg barS)
abbrev ackC (h : Bool) (c : Dev nD) : GSem nD τ sig := ((c : Thread nD τ), .reg (ackS h))
abbrev sendC (h : Bool) (k : Fin 14) (c : Dev nD) : GSem nD τ sig := ((c : Thread nD τ), .dma (sendS h k))
abbrev recvC (h : Bool) (k : Fin 14) (c : Dev nD) : GSem nD τ sig := ((c : Thread nD τ), .dma (recvS h k))

/-- The credit of one transfer: a slot's. -/
abbrev N : ℕ := (slotM true 0).view.dmaCredit
theorem N_pos : 0 < N := View.dmaCredit_pos _ (by decide)
theorem slot_credit (h : Bool) (p : Fin 2) : (slotM h p).view.dmaCredit = N := rfl

/-! ## The schedule -/

/-- Transfer `k` reads its source at the whole share in the reduce-scatter, at one half in the all-gather, where the
    other half feeds the copy to the result. -/
abbrev shareOf (k : ℕ) : PosShare TreeShare := if k < 7 then fullShare else fullShare.left

/-- Slot `p` of a direction on device `c`, at some contents. -/
abbrev free (h : Bool) (p : Fin 2) (c : Dev nD) : sProp 𝕄 := iprop(∃ Y : S256x8192.Idx → Elt F .f32, owns (c : Thread nD τ) (slotM h p) fullShare Y)

/-- What each signal hands over: the barrier and the acknowledgements the right to write the neighbour's slot; the end of
    a departure the source back; an arrival the slot with its contents, and how far the sender had come. -/
def pay (g : GSem nD τ sig) (r : ℕ) (d : Bool) : sProp 𝕄 := match kind g.2 with
  | .bar => free d 1 (peer d g.1.1)
  | .ack h => free h (par r) (peer h g.1.1)
  | .send h k => owns (g.1.1 : Thread nD τ) (slotM h (par k.val)) (shareOf k.val) (val m h k.val g.1.1)
  | .recv h k => iprop(owns (g.1.1 : Thread nD τ) (slotM h (par (k.val + 1))) fullShare (val m h k.val (peer (!h) g.1.1)) ∗ reached ER (ackC h (peer (!h) g.1.1)) k.val)
  | .other => iprop(emp)

def dut (g : GSem nD τ sig) (r : ℕ) : Finset Bool := if g.1.2 = .tc then (match kind g.2 with
  | .bar => if r = 0 then Finset.univ else ∅
  | .ack _ => if r < 13 then {false} else ∅
  | .send _ _ => if r = 0 then {false} else ∅
  | .recv _ _ => if r = 0 then {false} else ∅
  | .other => ∅) else ∅

def amt (g : GSem nD τ sig) : ℕ := match kind g.2 with | .bar => 1 | .ack _ => 1 | _ => N

def ringRd : Rounds.Schedule (GSem nD τ sig) Bool 𝕄 where
  duties := dut
  unitless _ := False
  amount g _ _ := amt g
  payload := pay m
  amount_pos g _ _ _ := by
    unfold amt
    cases kind g.2 <;> first | exact Nat.one_pos | exact N_pos

instance ringRd_payload_storable (g : GSem nD τ sig) (r : ℕ) (d : Bool) :
    BI.Storable (upEmb : UEmb _ 𝕄) ((ringRd (F := F) m).payload g r d) := by
  show BI.Storable upEmb (pay m g r d)
  unfold pay
  split <;> infer_instance

section Tables
variable (c : Dev nD)

theorem duties_bar : (ringRd (F := F) m).duties (barC c) 0 = Finset.univ := by
  dsimp only [ringRd]; unfold dut; rw [if_pos rfl, kind_bar]; rfl
theorem duties_ack (h : Bool) {r : ℕ} (hr : r < 13) : (ringRd (F := F) m).duties (ackC h c) r = {false} := by
  dsimp only [ringRd]; unfold dut; rw [if_pos rfl, kind_ack]; exact if_pos hr
theorem duties_send (h : Bool) (k : Fin 14) : (ringRd (F := F) m).duties (sendC h k c) 0 = {false} := by
  dsimp only [ringRd]; unfold dut; rw [if_pos rfl, kind_send]; rfl
theorem duties_recv (h : Bool) (k : Fin 14) : (ringRd (F := F) m).duties (recvC h k c) 0 = {false} := by
  dsimp only [ringRd]; unfold dut; rw [if_pos rfl, kind_recv]; rfl

theorem later_bar : ∀ r, 1 ≤ r → (ringRd (F := F) m).duties (barC c) r = ∅ := fun r hr => by
  dsimp only [ringRd]; unfold dut; rw [if_pos rfl, kind_bar]; exact if_neg (by omega)
theorem later_ack (h : Bool) : ∀ r, 13 ≤ r → (ringRd (F := F) m).duties (ackC h c) r = ∅ := fun r hr => by
  dsimp only [ringRd]; unfold dut; rw [if_pos rfl, kind_ack]; exact if_neg (by omega)
theorem later_send (h : Bool) (k : Fin 14) : ∀ r, 1 ≤ r → (ringRd (F := F) m).duties (sendC h k c) r = ∅ := fun r hr => by
  dsimp only [ringRd]; unfold dut; rw [if_pos rfl, kind_send]; exact if_neg (by omega)
theorem later_recv (h : Bool) (k : Fin 14) : ∀ r, 1 ≤ r → (ringRd (F := F) m).duties (recvC h k c) r = ∅ := fun r hr => by
  dsimp only [ringRd]; unfold dut; rw [if_pos rfl, kind_recv]; exact if_neg (by omega)

theorem amount_bar (r : ℕ) (d : Bool) : (ringRd (F := F) m).amount (barC c) r d = 1 := by
  dsimp only [ringRd]; unfold amt; rw [kind_bar]
theorem amount_ack (h : Bool) (r : ℕ) (d : Bool) : (ringRd (F := F) m).amount (ackC h c) r d = 1 := by
  dsimp only [ringRd]; unfold amt; rw [kind_ack]
theorem amount_send (h : Bool) (k : Fin 14) (r : ℕ) (d : Bool) : (ringRd (F := F) m).amount (sendC h k c) r d = N := by
  dsimp only [ringRd]; unfold amt; rw [kind_send]
theorem amount_recv (h : Bool) (k : Fin 14) (r : ℕ) (d : Bool) : (ringRd (F := F) m).amount (recvC h k c) r d = N := by
  dsimp only [ringRd]; unfold amt; rw [kind_recv]

theorem expect_bar : (ringRd (F := F) m).expect (barC c) 0 = 2 := by
  unfold Schedule.expect Schedule.amountOf
  rw [duties_bar, Finset.sum_congr rfl fun d _ => amount_bar m c 0 d, Finset.sum_const, Finset.card_univ, Fintype.card_bool, smul_eq_mul]
theorem expect_ack (h : Bool) {r : ℕ} (hr : r < 13) : (ringRd (F := F) m).expect (ackC h c) r = 1 := by
  unfold Schedule.expect Schedule.amountOf; rw [duties_ack m c h hr, Finset.sum_singleton, amount_ack]
theorem expect_send (h : Bool) (k : Fin 14) : (ringRd (F := F) m).expect (sendC h k c) 0 = N := by
  unfold Schedule.expect Schedule.amountOf; rw [duties_send, Finset.sum_singleton, amount_send]
theorem expect_recv (h : Bool) (k : Fin 14) : (ringRd (F := F) m).expect (recvC h k c) 0 = N := by
  unfold Schedule.expect Schedule.amountOf; rw [duties_recv, Finset.sum_singleton, amount_recv]

theorem payload_bar (d : Bool) : (ringRd (F := F) m).payload (barC c) 0 d = free d 1 (peer d c) := by
  dsimp only [ringRd]; unfold pay; rw [kind_bar]
theorem payload_ack (h : Bool) (r : ℕ) (d : Bool) : (ringRd (F := F) m).payload (ackC h c) r d = free h (par r) (peer h c) := by
  dsimp only [ringRd]; unfold pay; rw [kind_ack]
theorem payload_send (h : Bool) (k : Fin 14) (d : Bool) : (ringRd (F := F) m).payload (sendC h k c) 0 d
    = owns (c : Thread nD τ) (slotM h (par k.val)) (shareOf k.val) (val m h k.val c) := by
  dsimp only [ringRd]; unfold pay; rw [kind_send]
theorem payload_recv (h : Bool) (k : Fin 14) (d : Bool) : (ringRd (F := F) m).payload (recvC h k c) 0 d
    = iprop(owns (c : Thread nD τ) (slotM h (par (k.val + 1))) fullShare (val m h k.val (peer (!h) c)) ∗ reached ER (ackC h (peer (!h) c)) k.val) := by
  dsimp only [ringRd]; unfold pay; rw [kind_recv]

theorem rest_bar : bigSep ((ringRd (F := F) m).duties (barC c) 0 \ ∅) (fun d => (ringRd (F := F) m).payload (barC c) 0 d)
    = iprop(free true 1 (peer true c) ∗ free false 1 (peer false c)) := by
  rw [Finset.sdiff_empty, duties_bar, bigSep_univ_eq_bigSepL [true, false] (by decide) (by decide), bigSepL_cons_cons, bigSepL_singleton, payload_bar, payload_bar]
  rfl
theorem rest_ack (h : Bool) {r : ℕ} (hr : r < 13) : bigSep ((ringRd (F := F) m).duties (ackC h c) r \ ∅) (fun d => (ringRd (F := F) m).payload (ackC h c) r d)
    = free h (par r) (peer h c) := by
  rw [Finset.sdiff_empty, duties_ack m c h hr, bigSep_singleton, payload_ack]
theorem rest_send (h : Bool) (k : Fin 14) : bigSep ((ringRd (F := F) m).duties (sendC h k c) 0 \ ∅) (fun d => (ringRd (F := F) m).payload (sendC h k c) 0 d)
    = owns (c : Thread nD τ) (slotM h (par k.val)) (shareOf k.val) (val m h k.val c) := by
  rw [Finset.sdiff_empty, duties_send, bigSep_singleton, payload_send]
theorem rest_recv (h : Bool) (k : Fin 14) : bigSep ((ringRd (F := F) m).duties (recvC h k c) 0 \ ∅) (fun d => (ringRd (F := F) m).payload (recvC h k c) 0 d)
    = iprop(owns (c : Thread nD τ) (slotM h (par (k.val + 1))) fullShare (val m h k.val (peer (!h) c)) ∗ reached ER (ackC h (peer (!h) c)) k.val) := by
  rw [Finset.sdiff_empty, duties_recv, bigSep_singleton, payload_recv]

end Tables

/-! ## What a device owes, and the levels -/

/-- The arrivals a device owes its neighbour from transfer `k` on; the acknowledgements it owes from round `a` on. -/
def owR (h : Bool) (c : Dev nD) (k : ℕ) : CellTallies nD τ sig ℕ := ∑ j ∈ Finset.Ico k 14, tallyAt (recvC h (f14 j) (peer h c)) 0 N
def owA (h : Bool) (c : Dev nD) (a : ℕ) : CellTallies nD τ sig ℕ := ∑ r ∈ Finset.Ico a 13, tallyAt (ackC h (peer (!h) c)) r 1
def OW (c : Dev nD) (k₁ k₂ a₁ a₂ : ℕ) : CellTallies nD τ sig ℕ := owR true c k₁ + owR false c k₂ + owA true c a₁ + owA false c a₂
/-- All of it at the start, with the two barrier signals. -/
def O₀ (c : Dev nD) : CellTallies nD τ sig ℕ := OW c 0 0 0 0 + tallyAt (barC (peer true c)) 0 1 + tallyAt (barC (peer false c)) 0 1

theorem sum_Ico_bot {a b : ℕ} (h : a < b) (D : ℕ → CellTallies nD τ sig ℕ) : ∑ j ∈ Finset.Ico a b, D j = ∑ j ∈ Finset.Ico (a + 1) b, D j + D a := by
  rw [show Finset.Ico a b = insert a (Finset.Ico (a + 1) b) by ext x; simp only [Finset.mem_Ico, Finset.mem_insert]; omega,
    Finset.sum_insert (by rw [Finset.mem_Ico]; omega), add_comm]
theorem owR_step (h : Bool) (c : Dev nD) (t : Fin 14) : owR h c t.val = owR h c (t.val + 1) + tallyAt (recvC h t (peer h c)) 0 N := by
  unfold owR; rw [sum_Ico_bot t.isLt, f14_val]
theorem owA_step (h : Bool) (c : Dev nD) {a : ℕ} (ha : a < 13) : owA h c a = owA h c (a + 1) + tallyAt (ackC h (peer (!h) c)) a 1 := by
  unfold owA; rw [sum_Ico_bot ha]
theorem OW_sendT (c : Dev nD) (t : Fin 14) (k a b : ℕ) : OW c t.val k a b = OW c (t.val + 1) k a b + tallyAt (recvC true t (peer true c)) 0 N := by
  unfold OW; rw [owR_step]; ac_rfl
theorem OW_sendF (c : Dev nD) (t : Fin 14) (k a b : ℕ) : OW c k t.val a b = OW c k (t.val + 1) a b + tallyAt (recvC false t (peer false c)) 0 N := by
  unfold OW; rw [owR_step]; ac_rfl
theorem OW_ackT (c : Dev nD) (k l b : ℕ) {a : ℕ} (ha : a < 13) : OW c k l a b = OW c k l (a + 1) b + tallyAt (ackC true (peer false c)) a 1 := by
  unfold OW; rw [owA_step true c ha]; ac_rfl
theorem OW_ackF (c : Dev nD) (k l b : ℕ) {a : ℕ} (ha : a < 13) : OW c k l b a = OW c k l b (a + 1) + tallyAt (ackC false (peer true c)) a 1 := by
  unfold OW; rw [owA_step false c ha]; ac_rfl
theorem OW_end (c : Dev nD) : OW c 14 14 13 13 = 0 := by
  unfold OW owR owA; simp

def L (g : GSem nD τ sig) : Finset ℕ := if g.1.2 = .tc then Finset.range 14 else ∅
def lv (g : GSem nD τ sig) (i : ℕ) : ℕ := match kind g.2 with
  | .bar => 1 | .ack _ => 2 * i + 3 | .recv _ k => 2 * k.val + 2 | _ => 0

theorem L_of_ne (g : GSem nD τ sig) (h : g.1.2 ≠ .tc) : L g = ∅ := if_neg h
theorem L_tc (c : Dev nD) (sm : SemLoc sig) : L ((c : Thread nD τ), sm) = Finset.range 14 := if_pos rfl

theorem tally_sum_pos {ι : Type} {s : Finset ι} {D : ι → CellTallies nD τ sig ℕ} {g : GSem nD τ sig} {u : ℕ} (h : 0 < (∑ j ∈ s, D j) g u) :
    ∃ j ∈ s, 0 < D j g u := by
  rw [Finset.sum_apply, Finsupp.finset_sum_apply] at h
  by_contra hn
  push Not at hn
  have := Finset.sum_eq_zero (fun j hj => Nat.le_zero.mp (hn j hj))
  omega

theorem owR_pos {h : Bool} {c : Dev nD} {k : ℕ} {g : GSem nD τ sig} {u : ℕ} (hg : 0 < owR h c k g u) :
    u ∈ L g ∧ 2 * k + 2 ≤ lv g u := by
  obtain ⟨j, hj, h'⟩ := tally_sum_pos hg
  rw [tallyAt_apply] at h'
  split at h'
  · rename_i h''
    obtain ⟨rfl, rfl⟩ := h''
    refine ⟨by rw [L_tc]; decide, ?_⟩
    have := Finset.mem_Ico.mp hj
    unfold lv; rw [kind_recv]
    show 2 * k + 2 ≤ 2 * (j % 14) + 2
    rw [Nat.mod_eq_of_lt this.2]; omega
  · exact absurd h' (Nat.lt_irrefl 0)
theorem owA_pos {h : Bool} {c : Dev nD} {a : ℕ} {g : GSem nD τ sig} {u : ℕ} (hg : 0 < owA h c a g u) :
    u ∈ L g ∧ 2 * a + 3 ≤ lv g u := by
  obtain ⟨j, hj, h'⟩ := tally_sum_pos hg
  rw [tallyAt_apply] at h'
  split at h'
  · rename_i h''
    obtain ⟨rfl, rfl⟩ := h''
    have := Finset.mem_Ico.mp hj
    refine ⟨by rw [L_tc]; exact Finset.mem_range.mpr (by omega), ?_⟩
    unfold lv; rw [kind_ack]
    show 2 * a + 3 ≤ 2 * _ + 3
    omega
  · exact absurd h' (Nat.lt_irrefl 0)
theorem OW_pos {c : Dev nD} {k₁ k₂ a₁ a₂ b : ℕ} (h₁ : b < 2 * k₁ + 2) (h₂ : b < 2 * k₂ + 2) (h₃ : b < 2 * a₁ + 3) (h₄ : b < 2 * a₂ + 3)
    {g : GSem nD τ sig} {u : ℕ} (hg : 0 < OW c k₁ k₂ a₁ a₂ g u) : u ∈ L g ∧ b < lv g u := by
  unfold OW at hg
  simp only [Pi.add_apply, Finsupp.add_apply] at hg
  have : 0 < owR true c k₁ g u ∨ 0 < owR false c k₂ g u ∨ 0 < owA true c a₁ g u ∨ 0 < owA false c a₂ g u := by omega
  rcases this with h | h | h | h
  · have := owR_pos h; exact ⟨this.1, by omega⟩
  · have := owR_pos h; exact ⟨this.1, by omega⟩
  · have := owA_pos h; exact ⟨this.1, by omega⟩
  · have := owA_pos h; exact ⟨this.1, by omega⟩

/-- A wait on a semaphore whose level lies below everything still owed. -/
theorem mayWait (c : Dev nD) (sm : SemLoc sig) (i b : ℕ) {k₁ k₂ a₁ a₂ : ℕ} (hi : i < 14) (hb : lv ((c : Thread nD τ), sm) i ≤ b)
    (h₁ : b < 2 * k₁ + 2) (h₂ : b < 2 * k₂ + 2) (h₃ : b < 2 * a₁ + 3) (h₄ : b < 2 * a₂ + 3) :
    (levAts L lv : sProp 𝕄) ⊢ MayWait (c : Thread nD τ) sm i (OW c k₁ k₂ a₁ a₂) :=
  MayOwe.of_cut (L := L) (lev := lv) b
    (fun p hp => by rw [Finset.mem_singleton.mp hp, L_tc]; exact Finset.mem_range.mpr hi)
    (fun g u hg => (OW_pos h₁ h₂ h₃ h₄ hg).1)
    (fun p hp => by rw [Finset.mem_singleton.mp hp]; exact hb)
    (fun g u hg => (OW_pos h₁ h₂ h₃ h₄ hg).2)

theorem lv_send (h : Bool) (k : Fin 14) (c : Dev nD) (i : ℕ) : lv (sendC h k c) i = 0 := by unfold lv; rw [kind_send]
theorem lv_recv (h : Bool) (k : Fin 14) (c : Dev nD) (i : ℕ) : lv (recvC h k c) i = 2 * k.val + 2 := by unfold lv; rw [kind_recv]
theorem lv_ack (h : Bool) (c : Dev nD) (i : ℕ) : lv (ackC h c) i = 2 * i + 3 := by unfold lv; rw [kind_ack]
theorem lv_bar (c : Dev nD) (i : ℕ) : lv (barC c) i = 1 := by unfold lv; rw [kind_bar]
theorem lv_x (h : Bool) (c : Dev nD) (i : ℕ) : lv ((c : Thread nD τ), .dma (xS h)) i = 0 := by unfold lv; rw [kind_x]
theorem lv_w (p : Fin 2) (c : Dev nD) (i : ℕ) : lv ((c : Thread nD τ), .dma (wS p)) i = 0 := by unfold lv; rw [kind_w]
theorem lv_st (h : Bool) (c : Dev nD) (i : ℕ) : lv ((c : Thread nD τ), .dma (stS h)) i = 0 := by unfold lv; rw [kind_st]

end Cert.KernelIdeal.Ring

end
-- ==== Proof.KernelIdealRules.lean ====
/- Rules for the local work of the body: loads, stores and local copies of arrays held at known contents. -/
module

public import proofs.«01_k».proof.Proof.KernelIdealSched
public import Idealize.ShloMosaic.Lib.SparseCore.Scatter

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "ℙ" => Prog (TpuEff nD τ sig (Elt F) Λ₀ Proc.tc) PUnit

abbrev 𝒱₀ : Variants := Variants.none

/-- What the rest `p` of the body on device `c` needs, to end in `Q`. -/
abbrev run (c : Dev nD) (Q : PUnit → sProp 𝕄) (p : ℙ) : sProp 𝕄 := wp frame (wpE (defs₀ (F := F)) 𝒱₀ (c : Thread nD τ) none) Set.univ p Q

/-- What a device owes, whatever it has waited for. -/
abbrev Ow (c : Dev nD) (O : CellTallies nD τ sig ℕ) : sProp 𝕄 := iprop(∃ W, owes (c : Thread nD τ) O W)

section Rules
variable {c : Dev nD} {Q : PUnit.{1} → sProp (MT nD τ sig ℕ (Elt F) ℕ UU ℕ)}

/-! ## Loads and stores -/

theorem owns_out {s : Shape} {sp : Space} (M : Memref sig .tc sp s .f32) (q : PosShare TreeShare) (X : s.Idx → Elt F .f32) :
    (owns (c : Thread nD τ) M q X : sProp 𝕄) ⊢ iprop(∃ g, ⌜M.view.read (Elt F) g = X⌝ ∗ M.view.loc (c : Thread nD τ) ↦[M.view.set]{q} g) := .rfl

/-- A load through a rectangle of an array held at `X` reads `X` there. -/
theorem run_load {s : Shape} {sp : CoreSpace} (M : Memref sig .tc sp s .f32) (r : Rect s) {hl : M.view.LoadsAt r.toLoadRect}
    {k : (r.toLoadRect.shape.Idx → Elt F .f32) → ℙ} (q : PosShare TreeShare) (X : s.Idx → Elt F .f32) :
    owns (c : Thread nD τ) M q X ⊢ iprop((owns (c : Thread nD τ) M q X -∗ run c Q (k fun i => X (r.emb i))) -∗ run c Q (.op (.load M r.toLoadRect hl) k)) := by
  iintro H Hk
  ihave H' := owns_out M q X $$ H
  icases H' with ⟨%g, %hg, H⟩
  iapply (wp_load 𝒱₀ (c : Thread nD τ) none Set.univ (m := M) (r := r.toLoadRect) (S := M.view.set) (Finset.map_subset_map.mpr (Finset.subset_univ _))) $$ H
  iintro H
  rw [View.readAt_rect, show (M.view.slice r).read (Elt F) g = fun i => X (r.emb i) by rw [← hg]; rfl]
  iapply Hk
  rw [← hg]
  iapply (owns_intro (c : Thread nD τ) M q); iexact H

/-- A store through a rectangle of an array held at `X`. -/
theorem run_store {s : Shape} {sp : CoreSpace} (M : Memref sig .tc sp s .f32) (r : Rect s) {w : r.shape.Idx → Elt F .f32}
    {hx : (M.access r).Stores Finset.univ} {hm : (Finset.univ : Finset r.shape.Idx) = Finset.univ ∨ ∀ a, r.stride a = 1}
    {k : PUnit → ℙ} (X : s.Idx → Elt F .f32) :
    owns (c : Thread nD τ) M fullShare X
      ⊢ iprop((owns (c : Thread nD τ) M fullShare (r.overlay X w) -∗ run c Q (k ⟨⟩)) -∗ run c Q (.op (.store M r w Finset.univ hx hm) k)) := by
  iintro H Hk
  ihave H' := owns_out M fullShare X $$ H
  icases H' with ⟨%g, %hg, H⟩
  iapply (wp_store 𝒱₀ (c : Thread nD τ) none Set.univ (m := M) (r := r) (S := M.view.set)
    ((Memref.setOn_access_subset_setOn M r _).trans (Finset.map_subset_map.mpr (Finset.subset_univ _)))) $$ H
  iintro H
  iapply Hk
  have e : M.view.read (Elt F) ((M.access r).write (Elt F) g w Finset.univ) = r.overlay X w := by
    funext j
    by_cases hj : j ∈ r.set
    · obtain ⟨i, rfl⟩ := r.exists_idx_of_mem hj
      refine Eq.trans ?_ (Rect.overlay_emb r X w i).symm
      exact congrFun (View.read_write_univ (v := M.access r) g w) i
    · rw [Rect.overlay_of_not_mem _ _ _ hj, ← hg, View.read_apply, View.read_apply, View.write_of_not_mem]
      intro hm'
      obtain ⟨z, -, hz⟩ := Finset.mem_map.mp hm'
      exact hj (by rw [← M.view.emb.injective hz]; exact r.map_emb_univ ▸ Finset.mem_map_of_mem _ (Finset.mem_univ z))
  rw [← e]
  iapply (owns_intro (c : Thread nD τ) M fullShare); iexact H

/-- A load of the whole of a slot, through the array the slot is a part of. -/
theorem run_load_slot {s s' : Shape} {sp : CoreSpace} (M : Memref sig .tc sp s .f32) (r : Rect s) (hr : ∀ a, r.stride a = 1) (hq : r.shape.Squeezes s')
    (hc : s'.ShapeCasts r.shape) {hl : M.view.LoadsAt r.toLoadRect}
    {k : (r.toLoadRect.shape.Idx → Elt F .f32) → ℙ} (q : PosShare TreeShare) (X : s'.Idx → Elt F .f32) :
    owns (c : Thread nD τ) ((M.slice r hr).squeeze s' hq) q X
      ⊢ iprop((owns (c : Thread nD τ) ((M.slice r hr).squeeze s' hq) q X -∗ run c Q (k (shapeCast r.shape X hc))) -∗ run c Q (.op (.load M r.toLoadRect hl) k)) := by
  iintro H Hk
  ihave H' := owns_out ((M.slice r hr).squeeze s' hq) q X $$ H
  icases H' with ⟨%g, %hg, H⟩
  have hs : ((M.slice r hr).squeeze s' hq).view.set = r.set.map M.view.emb := (View.set_reshape _ _).trans (View.set_slice _ r)
  iapply (wp_load 𝒱₀ (c : Thread nD τ) none Set.univ (m := M) (r := r.toLoadRect) (S := ((M.slice r hr).squeeze s' hq).view.set) (q := q) (f := g)
    (by rw [hs]; exact Finset.map_subset_map.mpr (fun i hi => hi))) $$ [H]
  · iexact H
  iintro H
  have e : M.view.readAt (Elt F) r.toLoadRect g = shapeCast r.shape X hc := by
    rw [← hg]
    exact (shapeCast_shapeCast (M.view.readAt (Elt F) r.toLoadRect g) (show r.shape.ShapeCasts s' from hc.symm) hc).symm
  rw [e]
  iapply Hk
  rw [← hg]
  iapply (owns_intro (c : Thread nD τ) ((M.slice r hr).squeeze s' hq) q); iexact H

/-- A store into a rectangle `r` of a slot, through the rectangle `R` of the array the slot is a part of. -/
theorem run_store_slot {s s' : Shape} {sp : CoreSpace} (M : Memref sig .tc sp s .f32) (r₀ : Rect s) (hr : ∀ a, r₀.stride a = 1) (hq : r₀.shape.Squeezes s')
    (r : Rect s') (R : Rect s) (hR : r.shape.ShapeCasts R.shape)
    (hc : ∀ k : R.shape.Idx, r₀.emb (Shape.reshapeEquiv hq.numel_eq (r.emb (Shape.reshapeEquiv hR k))) = R.emb k)
    {y : r.shape.Idx → Elt F .f32}
    {hx : (M.access R).Stores Finset.univ} {hm : (Finset.univ : Finset R.shape.Idx) = Finset.univ ∨ ∀ a, R.stride a = 1}
    {k : PUnit → ℙ} (X : s'.Idx → Elt F .f32) :
    owns (c : Thread nD τ) ((M.slice r₀ hr).squeeze s' hq) fullShare X
      ⊢ iprop((owns (c : Thread nD τ) ((M.slice r₀ hr).squeeze s' hq) fullShare (r.overlay X y) -∗ run c Q (k ⟨⟩))
        -∗ run c Q (.op (.store M R (shapeCast R.shape y hR) Finset.univ hx hm) k)) := by
  iintro H Hk
  ihave H' := owns_out ((M.slice r₀ hr).squeeze s' hq) fullShare X $$ H
  icases H' with ⟨%g, %hg, H⟩
  have hs : ((M.slice r₀ hr).squeeze s' hq).view.set = r₀.set.map M.view.emb := (View.set_reshape _ _).trans (View.set_slice _ r₀)
  have hemb (z : s'.Idx) : ((M.slice r₀ hr).squeeze s' hq).view.emb z = M.view.emb (r₀.emb (Shape.reshapeEquiv hq.numel_eq z)) := rfl
  have hsub : (M.access R).setOn Finset.univ ⊆ ((M.slice r₀ hr).squeeze s' hq).view.set := by
    intro i hi
    obtain ⟨z, -, rfl⟩ := Finset.mem_map.mp hi
    rw [show (M.access R).emb z = M.view.emb (R.emb z) from rfl, ← hc z, ← hemb]
    exact View.emb_mem_set _ _
  iapply (wp_store 𝒱₀ (c : Thread nD τ) none Set.univ (m := M) (r := R) (S := ((M.slice r₀ hr).squeeze s' hq).view.set) (f := g) hsub) $$ [H]
  · iexact H
  iintro H
  iapply Hk
  have e : ((M.slice r₀ hr).squeeze s' hq).view.read (Elt F) ((M.access R).write (Elt F) g (shapeCast R.shape y hR) Finset.univ) = r.overlay X y := by
    funext j
    by_cases hj : j ∈ r.set
    · obtain ⟨i, rfl⟩ := r.exists_idx_of_mem hj
      refine Eq.trans ?_ (Rect.overlay_emb r X y i).symm
      obtain ⟨z, rfl⟩ := (Shape.reshapeEquiv hR).surjective i
      refine Eq.trans ?_ (congrFun (View.read_write_univ (v := M.access R) g (shapeCast R.shape y hR)) z)
      rw [View.read_apply, View.read_apply]
      have : ((M.slice r₀ hr).squeeze s' hq).view.emb (r.emb (Shape.reshapeEquiv hR z)) = (M.access R).emb z := by
        rw [hemb, hc]; rfl
      exact congrArg _ (congrArg _ this)
    · rw [Rect.overlay_of_not_mem _ _ _ hj, ← hg, View.read_apply, View.read_apply]
      refine congrArg _ (View.write_of_not_mem (v := M.access R) _ _ _ ?_)
      intro hm'
      obtain ⟨z, -, hz⟩ := Finset.mem_map.mp hm'
      have h1 : ((M.slice r₀ hr).squeeze s' hq).view.emb (r.emb (Shape.reshapeEquiv hR z)) = ((M.slice r₀ hr).squeeze s' hq).view.emb j := by
        rw [hemb, hc]; exact hz
      exact hj (by rw [← ((M.slice r₀ hr).squeeze s' hq).view.emb.injective h1]; exact r.map_emb_univ ▸ Finset.mem_map_of_mem _ (Finset.mem_univ _))
  rw [← e]
  iapply (owns_intro (c : Thread nD τ) ((M.slice r₀ hr).squeeze s' hq) fullShare); iexact H

/-! ## Local copies -/

/-- The start of a copy of an array at `X` over another: in flight, both arrays at `X`. -/
theorem run_copy {s : Shape} {sp sp' : Space} (src : Memref sig .tc sp s .f32) (dst : Memref sig .tc sp' s .f32) (sm : DmaSem sig)
    {hsrc : src.view.WordExact} {hdst : dst.view.WordExact} {hsem : DmaTarget.Typed (nD := nD) (τ := τ) (p := Proc.tc) sp (.dma sm) (.here dst)} {k : PUnit → ℙ}
    (q : PosShare TreeShare) (n : ℕ) (hn : dst.view.dmaCredit = n) (hn0 : 0 < n) (X Y : s.Idx → Elt F .f32) :
    iprop(owns (c : Thread nD τ) src q X ∗ owns (c : Thread nD τ) dst fullShare Y ∗ semVal ((c : Thread nD τ), .dma sm) 0)
      ⊢ iprop((Transfers.Flight EC (c : Thread nD τ) (.dma sm) 0 n iprop(owns (c : Thread nD τ) src q X ∗ owns (c : Thread nD τ) dst fullShare X) -∗ run c Q (k ⟨⟩))
        -∗ run c Q (.op (.enqueueDma src (.here dst) (.dma sm) hsrc hdst hsem) k)) := by
  iintro ⟨Hs, Hd, Hv⟩ Hk
  ihave Hs' := owns_out src q X $$ Hs
  icases Hs' with ⟨%f, %hf, Hs⟩
  ihave Hd' := owns_out dst fullShare Y $$ Hd
  icases Hd' with ⟨%g, -, Hd⟩
  iapply (Transfers.wp_dmaLocal EC 𝒱₀ (c : Thread nD τ) none (src := src) (dst := dst) (fs := f) (fd := g) (q := q) (Sd := dst.view.set)
    0 n (show dst.view.amount (.dma sm) = n from hn) hn0 (Finset.Subset.refl _)) $$ [Hs Hd Hv]
  · isplitl [Hs]; · iexact Hs
    isplitl [Hd] <;> iassumption
  iintro HF
  iapply Hk
  iapply (Transfers.Flight_mono EC (c : Thread nD τ) ?_) $$ HF
  iintro ⟨Hd, Hs⟩
  isplitl [Hs]
  · rw [← hf]; iapply (owns_intro (c : Thread nD τ) src q); iexact Hs
  · have e : dst.view.read (Elt F) (dst.view.write (Elt F) g (ReadAs.same.apply (src.view.read (Elt F) f)) Finset.univ) = X := by
      rw [View.read_write_univ]; exact hf
    conv_rhs => rw [← e]
    iapply (owns_intro (c : Thread nD τ) dst fullShare); iexact Hd

/-- The same from a rectangle of an array at `X`, the array coming back whole. -/
theorem run_copy_part {s : Shape} {sp sp' : Space} (src : Memref sig .tc sp s .f32) (r : Rect s) (hr : ∀ a, r.stride a = 1)
    (dst : Memref sig .tc sp' r.shape .f32) (sm : DmaSem sig)
    {hsrc : (src.slice r hr).view.WordExact} {hdst : dst.view.WordExact} {hsem : DmaTarget.Typed (nD := nD) (τ := τ) (p := Proc.tc) sp (.dma sm) (.here dst)} {k : PUnit → ℙ}
    (q : PosShare TreeShare) (n : ℕ) (hn : dst.view.dmaCredit = n) (hn0 : 0 < n) (X : s.Idx → Elt F .f32) (Y : r.shape.Idx → Elt F .f32) :
    iprop(owns (c : Thread nD τ) src q X ∗ owns (c : Thread nD τ) dst fullShare Y ∗ semVal ((c : Thread nD τ), .dma sm) 0)
      ⊢ iprop((Transfers.Flight EC (c : Thread nD τ) (.dma sm) 0 n
            iprop(owns (c : Thread nD τ) src q X ∗ owns (c : Thread nD τ) dst fullShare (fun i => X (r.emb i))) -∗ run c Q (k ⟨⟩))
        -∗ run c Q (.op (.enqueueDma (src.slice r hr) (.here dst) (.dma sm) hsrc hdst hsem) k)) := by
  iintro ⟨Hs, Hd, Hv⟩ Hk
  ihave Hs' := owns_slice_split (c : Thread nD τ) src q r hr X $$ Hs
  icases Hs' with ⟨Hs, %f, %hf, Hr⟩
  iapply (run_copy (src.slice r hr) dst sm q n hn hn0 (fun i => X (r.emb i)) Y) $$ [Hs Hd Hv]
  · isplitl [Hs]; · iexact Hs
    isplitl [Hd] <;> iassumption
  iintro HF
  iapply Hk
  ihave HF := Transfers.Flight_frame EC (c : Thread nD τ) $$ [Hr HF]
  · isplitl [Hr]; · iexact Hr
    iexact HF
  iapply (Transfers.Flight_mono EC (c : Thread nD τ) ?_) $$ HF
  iintro ⟨Hr, Hs, Hd⟩
  isplitr [Hd]
  · have e : r.overlay (src.view.read (Elt F) f) (fun i => X (r.emb i)) = X := by
      rw [hf]; funext j
      by_cases hj : j ∈ r.set
      · obtain ⟨i, rfl⟩ := r.exists_idx_of_mem hj
        exact Rect.overlay_emb r X _ i
      · exact Rect.overlay_of_not_mem _ _ _ hj
    conv_rhs => rw [← e]
    iapply (owns_slice_join (c : Thread nD τ) src q r hr)
    isplitl [Hs]; · iexact Hs
    iexact Hr
  · iexact Hd

/-- The wait for a copy in flight, owing only what lies above. -/
theorem run_wait {s s' : Shape} {sp sp' : Space} (src : Memref sig .tc sp s .f32) (dst : Memref sig .tc sp' s' .f32) (sm : DmaSem sig)
    {hsrc : src.view.WordExact} {hdst : dst.view.WordExact} {k : PUnit → ℙ} {n : ℕ} (hn : dst.view.dmaCredit = n) {D : sProp 𝕄}
    {k₁ k₂ a₁ a₂ : ℕ} (hsm : lv ((c : Thread nD τ), .dma sm) 0 = 0) :
    iprop(levAts L lv ∗ Transfers.Flight EC (c : Thread nD τ) (.dma sm) 0 n D ∗ Ow c (OW c k₁ k₂ a₁ a₂))
      ⊢ iprop((iprop(D ∗ semVal ((c : Thread nD τ), .dma sm) 0 ∗ Ow c (OW c k₁ k₂ a₁ a₂)) -∗ run c Q (k ⟨⟩))
        -∗ run c Q (.op (.waitDma2 sm src dst hsrc hdst) k)) := by
  iintro ⟨#Hl, HF, %W, HO⟩ Hk
  iapply (Transfers.wp_waitLocalO EC 𝒱₀ (c : Thread nD τ) none 0 hn (O := OW c k₁ k₂ a₁ a₂) (W := W)) $$ [HF HO]
  · isplitl [HF]; · iexact HF
    isplitl [HO]; · iexact HO
    iapply (mayWait c (.dma sm) 0 0 (by decide) hsm.le (by omega) (by omega) (by omega) (by omega)); iexact Hl
  iintro ⟨HD, Hv, HO⟩
  iapply Hk
  isplitl [HD]; · iexact HD
  isplitl [Hv]; · iexact Hv
  iexists _; iexact HO

end Rules

end Cert.KernelIdeal.Ring

end
-- ==== Proof.KernelIdealGemm.lean ====
/- What the local stages compute: the product of two blocks of rows with the weight block, the accumulation of a received
   slot, the activation of a slot, and the copies of a slot to the result. -/
module

public import proofs.«01_k».proof.Proof.KernelIdealRules
public import Idealize.ShloMosaic.Lib.ViewIndex

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "ℙ" => Prog (TpuEff nD τ sig (Elt F) Λ₀ Proc.tc) PUnit

/-! ## Whole rectangles -/

theorem rX_emb (i : S256x512.Idx) : rX.emb i = i := by
  refine Shape.idx_ext₂ ?_ ?_
  · show 0 + 1 * (i 0).val = (i 0).val
    omega
  · show 0 + 1 * (i 1).val = (i 1).val
    omega
theorem rL_emb (i : S256x8192.Idx) : rL.emb i = i := by
  refine Shape.idx_ext₂ ?_ ?_
  · show 0 + 1 * (i 0).val = (i 0).val
    omega
  · show 0 + 1 * (i 1).val = (i 1).val
    omega
theorem rL_overlay (X Y : S256x8192.Idx → Elt F .f32) : rL.overlay X Y = Y := by
  funext i
  conv_lhs => rw [← rL_emb i]
  exact Rect.overlay_emb rL X Y i

/-- An index of a slot, as an index of the array's slab and back. -/
theorem drop_slot (j : S256x8192.Idx) (h : S256x8192.numel = S1x256x8192.numel) : Shape.reshapeEquiv h j = (Fin.cons ⟨0, Nat.one_pos⟩ j : S1x256x8192.Idx) :=
  shapeCast_dropUnit_apply (α := S1x256x8192.Idx) ![256, 8192] id h.symm j
theorem add_slot (j : S1x256x8192.Idx) (h : S1x256x8192.numel = S256x8192.numel) : Shape.reshapeEquiv h j = (fun a => j a.succ : S256x8192.Idx) :=
  shapeCast_addUnit_apply (α := S256x8192.Idx) ![256, 8192] id h.symm j
theorem add_tile (j : S1x256x2048.Idx) (h : S1x256x2048.numel = S256x2048.numel) : Shape.reshapeEquiv h j = (fun a => j a.succ : S256x2048.Idx) :=
  shapeCast_addUnit_apply (α := S256x2048.Idx) ![256, 2048] id h.symm j

/-- Column tile `j` of slot 0 lies where the slot's own tile lies. -/
theorem tile_place (j : Fin 4) (k : S1x256x2048.Idx) (h₁ : S256x8192.numel = S1x256x8192.numel) (h₂ : S1x256x2048.numel = S256x2048.numel) :
    (rSlot 0).emb (Shape.reshapeEquiv h₁ ((rT2 j).emb (Shape.reshapeEquiv h₂ k))) = (rT3 j).emb k := by
  rw [add_tile k h₂, drop_slot _ h₁]
  have h0 : (k 0).val < 1 := (k 0).isLt
  refine Shape.idx3_ext ?_ ?_ ?_
  · show 0 + 1 * 0 = 0 + 1 * (k 0).val
    omega
  · show 0 + 1 * (0 + 1 * (k 1).val) = 0 + 1 * (k 1).val
    omega
  · show 0 + 1 * (2048 * j.val + 1 * (k 2).val) = 2048 * j.val + 1 * (k 2).val
    omega
/-- The whole of a slot lies where the slot does. -/
theorem slot_place (p : Fin 2) (k : S1x256x8192.Idx) (h₁ : S256x8192.numel = S1x256x8192.numel) (h₂ : S1x256x8192.numel = S256x8192.numel) :
    (rSlot p).emb (Shape.reshapeEquiv h₁ (rL.emb (Shape.reshapeEquiv h₂ k))) = (rSlot p).emb k := by
  rw [rL_emb, Shape.reshapeEquiv_reshapeEquiv, Shape.reshapeEquiv_self]

/-! ## The product -/

section Gemm
variable {c : Dev nD} {Q : PUnit.{1} → sProp (MT nD τ sig ℕ (Elt F) ℕ UU ℕ)}

/-- The array a product is written to: slot 0 of the direction's buffer at the start, its local product later. -/
abbrev dstO (c : Dev nD) (first h : Bool) (X : S256x8192.Idx → Elt F .f32) : sProp 𝕄 := match first with
  | true => owns (c : Thread nD τ) (slotM h 0) fullShare X
  | false => owns (c : Thread nD τ) (locM h) fullShare X

theorem run_put (first h : Bool) (j : Fin 4) (y : FVec F S256x2048 .f32) (k : ℙ) (X : S256x8192.Idx → Elt F .f32) :
    dstO c first h X ⊢ iprop((dstO c first h (setTile j y X) -∗ run c Q k) -∗ run c Q (put first h j y k)) := by
  cases first
  · iintro H Hk
    iapply (run_load (locM h) (rT2 j) fullShare X) $$ H
    iintro H
    iapply (run_store (locM h) (rT2 j) X) $$ H
    iintro H
    iapply Hk
    rw [shapeCast_self]
    iexact H
  · iintro H Hk
    ihave H' := owns_out (slotM h 0) fullShare X $$ H
    icases H' with ⟨%g, %hg, H⟩
    have hsub : (bufM h).view.setOn (rT3 j).toLoadRect.set ⊆ (slotM h 0).view.set := by
      intro i hi
      obtain ⟨z, hz, rfl⟩ := Finset.mem_map.mp hi
      obtain ⟨k, rfl⟩ := (rT3 j).exists_idx_of_mem hz
      have e := tile_place j k (by decide) (by decide)
      rw [show (rT3 j).idx k = (rT3 j).emb k from rfl, ← e]
      exact View.emb_mem_set (slotM h 0).view _
    iapply (wp_load 𝒱₀ (c : Thread nD τ) none Set.univ (m := bufM h) (r := (rT3 j).toLoadRect) (S := (slotM h 0).view.set) (q := fullShare) (f := g) hsub) $$ [H]
    · iexact H
    iintro H
    iapply (run_store_slot (bufM h) (rSlot 0) (fun _ => rfl) squeezes_S1x256x8192_S256x8192 (rT2 j) (rT3 j) shapeCasts_S256x2048_S1x256x2048
      (fun k => tile_place j k _ _) (y := y) X) $$ [H]
    · rw [← hg]; iapply (owns_intro (c : Thread nD τ) (slotM h 0) fullShare); iexact H
    iintro H
    iapply Hk
    iexact H

theorem run_load_xr (h : Bool) {hl : (xrM h).view.LoadsAt rX.toLoadRect} {k : Vec F S256x512 .f32 → ℙ} (X : S256x512.Idx → Elt F .f32) :
    owns (c : Thread nD τ) (xrM h) fullShare X ⊢ iprop((owns (c : Thread nD τ) (xrM h) fullShare X -∗ run c Q (k X)) -∗ run c Q (.op (.load (xrM h) rX.toLoadRect hl) k)) := by
  have e : (fun i => X (rX.emb i)) = X := funext fun i => congrArg X (rX_emb i)
  have := run_load (c := c) (Q := Q) (xrM h) rX (hl := hl) (k := k) fullShare X
  rwa [e] at this

/-- The work on one staged tile writes both directions' products with it. -/
theorem run_tile (first : Bool) (j : Fin 4) (p : Fin 2) (k : ℙ) (w : Vec F S512x8192 .f32) (xa xb : Vec F S256x512 .f32) (Ya Yb : S256x8192.Idx → Elt F .f32) :
    iprop(owns (c : Thread nD τ) (wslotM p) fullShare (colTile w j) ∗ owns (c : Thread nD τ) (xrM true) fullShare xa ∗ owns (c : Thread nD τ) (xrM false) fullShare xb
        ∗ dstO c first true Ya ∗ dstO c first false Yb)
      ⊢ iprop((iprop(owns (c : Thread nD τ) (wslotM p) fullShare (colTile w j) ∗ owns (c : Thread nD τ) (xrM true) fullShare xa ∗ owns (c : Thread nD τ) (xrM false) fullShare xb
        ∗ dstO c first true (setTile j (prodT (colSlab w j) xa) Ya) ∗ dstO c first false (setTile j (prodT (colSlab w j) xb) Yb)) -∗ run c Q k)
        -∗ run c Q (tile first j p k)) := by
  iintro ⟨Hw, Ha, Hb, Hya, Hyb⟩ Hk
  iapply (run_load_slot wsM (rWs p) (fun _ => rfl) squeezes_S1x512x2048_S512x2048 casts_wslot fullShare (colTile w j)) $$ Hw
  iintro Hw
  iapply (run_load_xr true xa) $$ Ha
  iintro Ha
  iapply (run_put first true j _ _ Ya) $$ Hya
  iintro Hya
  iapply (run_load_xr false xb) $$ Hb
  iintro Hb
  iapply (run_put first false j _ _ Yb) $$ Hyb
  iintro Hyb
  iapply Hk
  isplitl [Hw]; · iexact Hw
  isplitl [Ha]; · iexact Ha
  isplitl [Hb]; · iexact Hb
  isplitl [Hya]; · iexact Hya
  iexact Hyb

/-- The device's arguments, `x` in two halves; and the scratch of a product, with its semaphores at rest. -/
abbrev argO (c : Dev nD) (x : Vec F S4096x512 .f32) (w : Vec F S512x8192 .f32) : sProp 𝕄 :=
  iprop(owns (c : Thread nD τ) xM fullShare.left x ∗ owns (c : Thread nD τ) xM fullShare.right x ∗ owns (c : Thread nD τ) wM fullShare w)
abbrev scrO (c : Dev nD) : sProp 𝕄 :=
  iprop((∃ Y : S256x512.Idx → Elt F .f32, owns (c : Thread nD τ) (xrM true) fullShare Y) ∗ (∃ Y : S256x512.Idx → Elt F .f32, owns (c : Thread nD τ) (xrM false) fullShare Y)
    ∗ (∃ Y : S512x2048.Idx → Elt F .f32, owns (c : Thread nD τ) (wslotM 0) fullShare Y) ∗ (∃ Y : S512x2048.Idx → Elt F .f32, owns (c : Thread nD τ) (wslotM 1) fullShare Y)
    ∗ semVal ((c : Thread nD τ), .dma (xS true)) 0 ∗ semVal ((c : Thread nD τ), .dma (xS false)) 0
    ∗ semVal ((c : Thread nD τ), .dma (wS 0)) 0 ∗ semVal ((c : Thread nD τ), .dma (wS 1)) 0)

theorem run_xLoad (h : Bool) (off : Fin 2 → ℕ) (hb : ∀ a, off a + S256x512.size a ≤ S4096x512.size a) (k : ℙ) (q : PosShare TreeShare)
    (x : Vec F S4096x512 .f32) (Y : S256x512.Idx → Elt F .f32) :
    iprop(owns (c : Thread nD τ) xM q x ∗ owns (c : Thread nD τ) (xrM h) fullShare Y ∗ semVal ((c : Thread nD τ), .dma (xS h)) 0)
      ⊢ iprop((Transfers.Flight EC (c : Thread nD τ) (.dma (xS h)) 0 ((xrM h).view.dmaCredit)
            iprop(owns (c : Thread nD τ) xM q x ∗ owns (c : Thread nD τ) (xrM h) fullShare (rowsAt x off hb)) -∗ run c Q k) -∗ run c Q (xLoad h off hb k)) :=
  run_copy_part (Q := Q) xM (Rect.unit (s := S4096x512) off S256x512.size hb) (fun _ => rfl) (xrM h) (xS h) (k := fun _ => k) q _ rfl (View.dmaCredit_pos _ (show 0 < S256x512.numel by decide)) x Y

theorem run_wLoad (j : Fin 4) (p : Fin 2) (k : ℙ) (w : Vec F S512x8192 .f32) (Y : S512x2048.Idx → Elt F .f32) :
    iprop(owns (c : Thread nD τ) wM fullShare w ∗ owns (c : Thread nD τ) (wslotM p) fullShare Y ∗ semVal ((c : Thread nD τ), .dma (wS p)) 0)
      ⊢ iprop((Transfers.Flight EC (c : Thread nD τ) (.dma (wS p)) 0 ((wslotM p).view.dmaCredit)
            iprop(owns (c : Thread nD τ) wM fullShare w ∗ owns (c : Thread nD τ) (wslotM p) fullShare (colTile w j)) -∗ run c Q k) -∗ run c Q (wLoad j p k)) :=
  run_copy_part (Q := Q) wM (rWc j) (fun _ => rfl) (wslotM p) (wS p) (k := fun _ => k) fullShare _ rfl (View.dmaCredit_pos _ (show 0 < S512x2048.numel by decide)) w Y

variable {k₁ k₂ a₁ a₂ : ℕ}

theorem run_xWait (h : Bool) (off : Fin 2 → ℕ) (hb : ∀ a, off a + S256x512.size a ≤ S4096x512.size a) (k : ℙ) {D : sProp 𝕄} :
    iprop(levAts L lv ∗ Transfers.Flight EC (c : Thread nD τ) (.dma (xS h)) 0 ((xrM h).view.dmaCredit) D ∗ Ow c (OW c k₁ k₂ a₁ a₂))
      ⊢ iprop((iprop(D ∗ semVal ((c : Thread nD τ), .dma (xS h)) 0 ∗ Ow c (OW c k₁ k₂ a₁ a₂)) -∗ run c Q k) -∗ run c Q (xWait h off hb k)) :=
  run_wait (F := F) (Q := Q) (xrowM off hb) (xrM h) (xS h) (k := fun _ => k) rfl (lv_x h c 0)
theorem run_wWait (j : Fin 4) (p : Fin 2) (k : ℙ) {D : sProp 𝕄} :
    iprop(levAts L lv ∗ Transfers.Flight EC (c : Thread nD τ) (.dma (wS p)) 0 ((wslotM p).view.dmaCredit) D ∗ Ow c (OW c k₁ k₂ a₁ a₂))
      ⊢ iprop((iprop(D ∗ semVal ((c : Thread nD τ), .dma (wS p)) 0 ∗ Ow c (OW c k₁ k₂ a₁ a₂)) -∗ run c Q k) -∗ run c Q (wWait j p k)) :=
  run_wait (F := F) (Q := Q) (wcolM j) (wslotM p) (wS p) (k := fun _ => k) rfl (lv_w p c 0)

/-- The end of the copy of one tile, the start of the next one's, and the work on the first. -/
theorem run_tileStep (first : Bool) (j j' : Fin 4) (p p' : Fin 2) (k : ℙ) (w : Vec F S512x8192 .f32) (xa xb : Vec F S256x512 .f32) (Ya Yb : S256x8192.Idx → Elt F .f32) :
    iprop(levAts L lv ∗ Ow c (OW c k₁ k₂ a₁ a₂)
        ∗ Transfers.Flight EC (c : Thread nD τ) (.dma (wS p)) 0 ((wslotM p).view.dmaCredit)
            iprop(owns (c : Thread nD τ) wM fullShare w ∗ owns (c : Thread nD τ) (wslotM p) fullShare (colTile w j))
        ∗ (∃ Y : S512x2048.Idx → Elt F .f32, owns (c : Thread nD τ) (wslotM p') fullShare Y) ∗ semVal ((c : Thread nD τ), .dma (wS p')) 0
        ∗ owns (c : Thread nD τ) (xrM true) fullShare xa ∗ owns (c : Thread nD τ) (xrM false) fullShare xb ∗ dstO c first true Ya ∗ dstO c first false Yb)
      ⊢ iprop((iprop(Ow c (OW c k₁ k₂ a₁ a₂)
        ∗ Transfers.Flight EC (c : Thread nD τ) (.dma (wS p')) 0 ((wslotM p').view.dmaCredit)
            iprop(owns (c : Thread nD τ) wM fullShare w ∗ owns (c : Thread nD τ) (wslotM p') fullShare (colTile w j'))
        ∗ (∃ Y : S512x2048.Idx → Elt F .f32, owns (c : Thread nD τ) (wslotM p) fullShare Y) ∗ semVal ((c : Thread nD τ), .dma (wS p)) 0
        ∗ owns (c : Thread nD τ) (xrM true) fullShare xa ∗ owns (c : Thread nD τ) (xrM false) fullShare xb
        ∗ dstO c first true (setTile j (prodT (colSlab w j) xa) Ya) ∗ dstO c first false (setTile j (prodT (colSlab w j) xb) Yb)) -∗ run c Q k)
        -∗ run c Q (wWait j p <| wLoad j' p' <| tile first j p k)) := by
  iintro ⟨#Hl, HO, HF, ⟨%Y, Hw'⟩, Hs', Ha, Hb, Hya, Hyb⟩ Hk
  iapply (run_wWait j p _) $$ [HF HO]
  · isplitr; · iexact Hl
    isplitl [HF] <;> iassumption
  iintro ⟨⟨HW, Hw⟩, Hs, HO⟩
  iapply (run_wLoad j' p' _ w Y) $$ [HW Hw' Hs']
  · isplitl [HW]; · iexact HW
    isplitl [Hw'] <;> iassumption
  iintro HF
  iapply (run_tile first j p k w xa xb Ya Yb) $$ [Hw Ha Hb Hya Hyb]
  · isplitl [Hw]; · iexact Hw
    isplitl [Ha]; · iexact Ha
    isplitl [Hb]; · iexact Hb
    isplitl [Hya] <;> iassumption
  iintro ⟨Hw, Ha, Hb, Hya, Hyb⟩
  iapply Hk
  isplitl [HO]; · iexact HO
  isplitl [HF]; · iexact HF
  isplitl [Hw]; · iexists _; iexact Hw
  isplitl [Hs]; · iexact Hs
  isplitl [Ha]; · iexact Ha
  isplitl [Hb]; · iexact Hb
  isplitl [Hya] <;> iassumption

/-- The product of two blocks of rows with the whole weight block. -/
theorem run_gemm (first : Bool) (oa ob : Fin 2 → ℕ) (ha : ∀ a, oa a + S256x512.size a ≤ S4096x512.size a)
    (hb : ∀ a, ob a + S256x512.size a ≤ S4096x512.size a) (k : ℙ) (x : Vec F S4096x512 .f32) (w : Vec F S512x8192 .f32) (Ya Yb : S256x8192.Idx → Elt F .f32) :
    iprop(levAts L lv ∗ Ow c (OW c k₁ k₂ a₁ a₂) ∗ argO c x w ∗ scrO c ∗ dstO c first true Ya ∗ dstO c first false Yb)
      ⊢ iprop((iprop(Ow c (OW c k₁ k₂ a₁ a₂) ∗ argO c x w ∗ scrO c ∗ dstO c first true (prodRows w (rowsAt x oa ha)) ∗ dstO c first false (prodRows w (rowsAt x ob hb)))
          -∗ run c Q k) -∗ run c Q (gemm first oa ob ha hb k)) := by
  iintro ⟨#Hl, HO, ⟨Hxa, Hxb, HW⟩, ⟨⟨%Ra, Ha⟩, ⟨%Rb, Hb⟩, ⟨%W0, Hw0⟩, Hw1, Hsa, Hsb, Hs0, Hs1⟩, Hya, Hyb⟩ Hk
  iapply (run_xLoad true oa ha _ fullShare.left x Ra) $$ [Hxa Ha Hsa]
  · isplitl [Hxa]; · iexact Hxa
    isplitl [Ha] <;> iassumption
  iintro HFa
  iapply (run_xLoad false ob hb _ fullShare.right x Rb) $$ [Hxb Hb Hsb]
  · isplitl [Hxb]; · iexact Hxb
    isplitl [Hb] <;> iassumption
  iintro HFb
  iapply (run_wLoad 0 0 _ w W0) $$ [HW Hw0 Hs0]
  · isplitl [HW]; · iexact HW
    isplitl [Hw0] <;> iassumption
  iintro HF
  iapply (run_xWait true oa ha _) $$ [HFa HO]
  · isplitr; · iexact Hl
    isplitl [HFa] <;> iassumption
  iintro ⟨⟨Hxa, Ha⟩, Hsa, HO⟩
  iapply (run_xWait false ob hb _) $$ [HFb HO]
  · isplitr; · iexact Hl
    isplitl [HFb] <;> iassumption
  iintro ⟨⟨Hxb, Hb⟩, Hsb, HO⟩
  iapply (run_tileStep first 0 1 0 1 _ w _ _ Ya Yb) $$ [HO HF Hw1 Hs1 Ha Hb Hya Hyb]
  · isplitr; · iexact Hl
    isplitl [HO]; · iexact HO
    isplitl [HF]; · iexact HF
    isplitl [Hw1]; · iexact Hw1
    isplitl [Hs1]; · iexact Hs1
    isplitl [Ha]; · iexact Ha
    isplitl [Hb]; · iexact Hb
    isplitl [Hya] <;> iassumption
  iintro ⟨HO, HF, Hw0, Hs0, Ha, Hb, Hya, Hyb⟩
  iapply (run_tileStep first 1 2 1 0 _ w _ _ _ _) $$ [HO HF Hw0 Hs0 Ha Hb Hya Hyb]
  · isplitr; · iexact Hl
    isplitl [HO]; · iexact HO
    isplitl [HF]; · iexact HF
    isplitl [Hw0]; · iexact Hw0
    isplitl [Hs0]; · iexact Hs0
    isplitl [Ha]; · iexact Ha
    isplitl [Hb]; · iexact Hb
    isplitl [Hya] <;> iassumption
  iintro ⟨HO, HF, Hw1, Hs1, Ha, Hb, Hya, Hyb⟩
  iapply (run_tileStep first 2 3 0 1 _ w _ _ _ _) $$ [HO HF Hw1 Hs1 Ha Hb Hya Hyb]
  · isplitr; · iexact Hl
    isplitl [HO]; · iexact HO
    isplitl [HF]; · iexact HF
    isplitl [Hw1]; · iexact Hw1
    isplitl [Hs1]; · iexact Hs1
    isplitl [Ha]; · iexact Ha
    isplitl [Hb]; · iexact Hb
    isplitl [Hya] <;> iassumption
  iintro ⟨HO, HF, Hw0, Hs0, Ha, Hb, Hya, Hyb⟩
  iapply (run_wWait 3 1 _) $$ [HF HO]
  · isplitr; · iexact Hl
    isplitl [HF] <;> iassumption
  iintro ⟨⟨HW, Hw1⟩, Hs1, HO⟩
  iapply (run_tile first 3 1 k w _ _ _ _) $$ [Hw1 Ha Hb Hya Hyb]
  · isplitl [Hw1]; · iexact Hw1
    isplitl [Ha]; · iexact Ha
    isplitl [Hb]; · iexact Hb
    isplitl [Hya] <;> iassumption
  iintro ⟨Hw1, Ha, Hb, Hya, Hyb⟩
  rw [setTiles, setTiles]
  iapply Hk
  isplitl [HO]; · iexact HO
  isplitl [Hxa Hxb HW]
  · isplitl [Hxa]; · iexact Hxa
    isplitl [Hxb] <;> iassumption
  isplitr [Hya Hyb]
  · isplitl [Ha]; · iexists _; iexact Ha
    isplitl [Hb]; · iexists _; iexact Hb
    isplitl [Hw0]; · iexact Hw0
    isplitl [Hw1]; · iexists _; iexact Hw1
    isplitl [Hsa]; · iexact Hsa
    isplitl [Hsb]; · iexact Hsb
    isplitl [Hs0] <;> iassumption
  isplitl [Hya] <;> iassumption

/-! ## The accumulation, the activation, the copies to the result -/

theorem casts_slot : S256x8192.ShapeCasts S1x256x8192 := shapeCasts_S256x8192_S1x256x8192

/-- The store of a whole slot. -/
theorem run_store_whole (h : Bool) (p : Fin 2) {y : FVec F S256x8192 .f32} {hx : ((bufM h).access (rSlot p)).Stores Finset.univ}
    {hm : (Finset.univ : Finset (rSlot p).shape.Idx) = Finset.univ ∨ ∀ a, (rSlot p).stride a = 1} (k : ℙ) (X : S256x8192.Idx → Elt F .f32) :
    owns (c : Thread nD τ) (slotM h p) fullShare X
      ⊢ iprop((owns (c : Thread nD τ) (slotM h p) fullShare y -∗ run c Q k)
        -∗ run c Q (.op (.store (bufM h) (rSlot p) (shapeCast S1x256x8192 y casts_slot) Finset.univ hx hm) fun _ => k)) := by
  have := run_store_slot (c := c) (Q := Q) (bufM h) (rSlot p) (fun _ => rfl) squeezes_S1x256x8192_S256x8192 rL (rSlot p) casts_slot
      (fun z => slot_place p z _ _) (y := y) (hx := hx) (hm := hm) (k := fun _ => k) X
  rw [rL_overlay] at this
  exact this

theorem run_accum (h : Bool) (p : Fin 2) (k : ℙ) (B Y : S256x8192.Idx → Elt F .f32) :
    iprop(owns (c : Thread nD τ) (slotM h p) fullShare B ∗ owns (c : Thread nD τ) (locM h) fullShare Y)
      ⊢ iprop((iprop(owns (c : Thread nD τ) (slotM h p) fullShare (addf (F := F) (φ := .f32) B Y) ∗ owns (c : Thread nD τ) (locM h) fullShare Y) -∗ run c Q k)
        -∗ run c Q (accum h p k)) := by
  iintro ⟨HB, HY⟩ Hk
  iapply (run_load_slot (bufM h) (rSlot p) (fun _ => rfl) squeezes_S1x256x8192_S256x8192 casts_slot fullShare B) $$ HB
  iintro HB
  have e : (fun i => Y (rL.emb i)) = Y := funext fun i => congrArg Y (rL_emb i)
  iapply (run_load (locM h) rL fullShare Y) $$ HY
  iintro HY
  rw [e]
  iapply (run_load_slot (bufM h) (rSlot p) (fun _ => rfl) squeezes_S1x256x8192_S256x8192 casts_slot fullShare B) $$ HB
  iintro HB
  have e' : sumT (shapeCast (rSlot p).shape B casts_slot) Y = shapeCast S1x256x8192 (addf (F := F) (φ := .f32) B Y) casts_slot := by
    exact congrArg (fun z => shapeCast S1x256x8192 (addf (F := F) (φ := .f32) z Y) casts_slot) (shapeCast_shapeCast B casts_slot shapeCasts_S1x256x8192_S256x8192)
  rw [e']
  iapply (run_store_whole h p k B) $$ HB
  iintro HB
  iapply Hk
  isplitl [HB] <;> iassumption

theorem run_activate (h : Bool) (k : ℙ) (B : FVec F S256x8192 .f32) :
    owns (c : Thread nD τ) (slotM h 1) fullShare B
      ⊢ iprop((owns (c : Thread nD τ) (slotM h 1) fullShare (gelu B) -∗ run c Q k) -∗ run c Q (activate h k)) := by
  iintro HB Hk
  iapply (run_load_slot (bufM h) (rSlot 1) (fun _ => rfl) squeezes_S1x256x8192_S256x8192 casts_slot fullShare B) $$ HB
  iintro HB
  iapply (run_load_slot (bufM h) (rSlot 1) (fun _ => rfl) squeezes_S1x256x8192_S256x8192 casts_slot fullShare B) $$ HB
  iintro HB
  have e' : geluT (shapeCast (rSlot 1).shape B casts_slot) = shapeCast S1x256x8192 (gelu B) casts_slot := by
    exact congrArg (fun z => shapeCast S1x256x8192 (gelu z) casts_slot) (shapeCast_shapeCast B casts_slot shapeCasts_S1x256x8192_S256x8192)
  rw [e']
  iapply (run_store_whole h 1 k B) $$ HB
  iintro HB
  iapply Hk
  iexact HB

/-- A copy of a slot to rows of the result: in flight; and its end. -/
abbrev storing (c : Dev nD) (h : Bool) (p : Fin 2) (off : Fin 2 → ℕ) (hb : ∀ a, off a + S256x8192.size a ≤ S4096x8192.size a) (X : S256x8192.Idx → Elt F .f32) : sProp 𝕄 :=
  Transfers.Flight EC (c : Thread nD τ) (.dma (stS h)) 0 ((orowM off hb).view.dmaCredit)
    iprop(owns (c : Thread nD τ) (slotM h p) fullShare.right X ∗ owns (c : Thread nD τ) (orowM off hb) fullShare X)

theorem run_oStore (h : Bool) (p : Fin 2) (off : Fin 2 → ℕ) (hb : ∀ a, off a + S256x8192.size a ≤ S4096x8192.size a) (k : ℙ) (X Y : S256x8192.Idx → Elt F .f32) :
    iprop(owns (c : Thread nD τ) (slotM h p) fullShare.right X ∗ owns (c : Thread nD τ) (orowM off hb) fullShare Y ∗ semVal ((c : Thread nD τ), .dma (stS h)) 0)
      ⊢ iprop((storing c h p off hb X -∗ run c Q k) -∗ run c Q (oStore h p off hb k)) :=
  run_copy (Q := Q) (slotM h p) (orowM off hb) (stS h) (k := fun _ => k) fullShare.right _ rfl (View.dmaCredit_pos _ (by decide)) X Y

theorem run_oWait (h : Bool) (p : Fin 2) (off : Fin 2 → ℕ) (hb : ∀ a, off a + S256x8192.size a ≤ S4096x8192.size a) (k : ℙ) (X : S256x8192.Idx → Elt F .f32) :
    iprop(levAts L lv ∗ storing c h p off hb X ∗ Ow c (OW c k₁ k₂ a₁ a₂))
      ⊢ iprop((iprop((owns (c : Thread nD τ) (slotM h p) fullShare.right X ∗ owns (c : Thread nD τ) (orowM off hb) fullShare X)
          ∗ semVal ((c : Thread nD τ), .dma (stS h)) 0 ∗ Ow c (OW c k₁ k₂ a₁ a₂)) -∗ run c Q k) -∗ run c Q (oWait h p off hb k)) :=
  run_wait (F := F) (Q := Q) (slotM h p) (orowM off hb) (stS h) (k := fun _ => k) rfl (lv_st h c 0)

end Gemm

end Cert.KernelIdeal.Ring

end
-- ==== Proof.KernelIdealSteps.lean ====
/- The steps of the protocol between devices: a transfer and its two waits, an acknowledgement and its wait, and the
   entry barrier, each stated once for both directions and every round. -/
module

public import proofs.«01_k».proof.Proof.KernelIdealGemm
public import Idealize.SL.BI.BigOpNat

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "ℙ" => Prog (TpuEff nD τ sig (Elt F) Λ₀ Proc.tc) PUnit

variable (m : (ℓ : Loc nD τ sig) → Buf (Elt F) ℓ)

/-! ## What every device knows -/

/-- The semaphores that take part in the protocol. -/
abbrev CIx : Type := (Unit ⊕ Bool) ⊕ (Bool × Fin 14) ⊕ (Bool × Fin 14)
abbrev semOf : CIx → SemLoc sig
  | .inl (.inl _) => .reg barS
  | .inl (.inr h) => .reg (ackS h)
  | .inr (.inl (h, k)) => .dma (sendS h k)
  | .inr (.inr (h, k)) => .dma (recvS h k)
abbrev cellAt (p : Dev nD × CIx) : GSem nD τ sig := ((p.1 : Thread nD τ), semOf p.2)

/-- A cell's schedule is in force. -/
def known (g : GSem nD τ sig) : sProp 𝕄 := iprop(∃ κ, cellInv ER (ringRd m) κ g ∗ reached ER g 0)
instance known_persistent (g : GSem nD τ sig) : BI.Persistent (known m g : sProp 𝕄) := by unfold known; infer_instance
/-- Every cell's is. -/
def recs : sProp 𝕄 := bigSep Finset.univ fun p : Dev nD × CIx => known m (cellAt p)
instance recs_persistent : BI.Persistent (recs m : sProp 𝕄) := by unfold recs; infer_instance

theorem recs_cell (p : Dev nD × CIx) : (recs m : sProp 𝕄) ⊢ iprop(∃ κ, cellInv ER (ringRd m) κ (cellAt p) ∗ reached ER (cellAt p) 0) :=
  bigSep_elim (Finset.mem_univ p)
theorem recs_bar (c : Dev nD) : (recs m : sProp 𝕄) ⊢ iprop(∃ κ, cellInv ER (ringRd m) κ (barC c) ∗ reached ER (barC c) 0) := recs_cell m (c, .inl (.inl ()))
theorem recs_ack (h : Bool) (c : Dev nD) : (recs m : sProp 𝕄) ⊢ iprop(∃ κ, cellInv ER (ringRd m) κ (ackC h c) ∗ reached ER (ackC h c) 0) := recs_cell m (c, .inl (.inr h))
theorem recs_send (h : Bool) (k : Fin 14) (c : Dev nD) : (recs m : sProp 𝕄) ⊢ iprop(∃ κ, cellInv ER (ringRd m) κ (sendC h k c) ∗ reached ER (sendC h k c) 0) := recs_cell m (c, .inr (.inl (h, k)))
theorem recs_recv (h : Bool) (k : Fin 14) (c : Dev nD) : (recs m : sProp 𝕄) ⊢ iprop(∃ κ, cellInv ER (ringRd m) κ (recvC h k c) ∗ reached ER (recvC h k c) 0) := recs_cell m (c, .inr (.inr (h, k)))

/-! ## What a device holds of the protocol -/

/-- For transfer `k`: the right to pay its two semaphores, its two positions, and the credit of its own arrival. -/
def xf (h : Bool) (c : Dev nD) (k : ℕ) : sProp 𝕄 :=
  iprop(dutyTok ER (sendC h (f14 k) c) 0 false ∗ dutyTok ER (recvC h (f14 k) (peer h c)) 0 false
    ∗ atPos ER (sendC h (f14 k) c) 0 ∅ 0 ∗ atPos ER (recvC h (f14 k) c) 0 ∅ 0 ∗ cred (tallyAt (recvC h (f14 k) c) 0 N))
/-- The transfers still to start. -/
def xfers (h : Bool) (c : Dev nD) (k : ℕ) : sProp 𝕄 := bigSep (Finset.Ico k 14) (xf h c)
/-- Transfer `t` under way. -/
def flying (h : Bool) (c : Dev nD) (t : Fin 14) : sProp 𝕄 :=
  iprop(atPos ER (sendC h t c) 0 ∅ 0 ∗ atPos ER (recvC h t c) 0 ∅ 0 ∗ cred (tallyAt (recvC h t c) 0 N) ∗ cred (tallyAt (sendC h t c) 0 N))
/-- The semaphores of the transfers that are over, at rest. -/
def done (h : Bool) (c : Dev nD) (k : ℕ) : sProp 𝕄 := bigSep (Finset.range k) fun j => iprop(semVal (sendC h (f14 j) c) 0 ∗ semVal (recvC h (f14 j) c) 0)
/-- The acknowledgements still to give; and to wait for. -/
def ackG (h : Bool) (c : Dev nD) (a : ℕ) : sProp 𝕄 := bigSep (Finset.Ico a 13) fun r => dutyTok ER (ackC h (peer (!h) c)) r false
def ackW (h : Bool) (c : Dev nD) (k : ℕ) : sProp 𝕄 :=
  iprop(atPos ER (ackC h c) k ∅ 0 ∗ reached ER (ackC h c) k ∗ bigSep (Finset.Ico k 13) fun r => cred (tallyAt (ackC h c) r 1))

theorem xfers_step (h : Bool) (c : Dev nD) (t : Fin 14) : (xfers h c t.val : sProp 𝕄) = iprop(xf h c t.val ∗ xfers h c (t.val + 1)) := by
  unfold xfers; exact bigSep_Ico_succ_bot t.isLt _
theorem done_step (h : Bool) (c : Dev nD) (t : Fin 14) : (done h c (t.val + 1) : sProp 𝕄) = iprop((semVal (sendC h t c) 0 ∗ semVal (recvC h t c) 0) ∗ done h c t.val) := by
  unfold done; rw [bigSep_range_succ, f14_val]

section Steps
variable {c : Dev nD} {Q : PUnit.{1} → sProp (MT nD τ sig ℕ (Elt F) ℕ UU ℕ)}

/-- Transfer `t`: the slot goes, with how far the device's own acknowledgements have come. -/
theorem run_send (h : Bool) (t : Fin 14) (p q : Fin 2) (hp : p = par t.val) (hq : q = par (t.val + 1)) (k : ℙ) {O₁ O : CellTallies nD τ sig ℕ}
    (hO : O₁ = O + tallyAt (recvC h t (peer h c)) 0 N) :
    iprop(recs m ∗ Ow c O₁ ∗ xfers h c t.val ∗ ackW h c t.val ∗ free h q (peer h c) ∗ owns (c : Thread nD τ) (slotM h p) (shareOf t.val) (val m h t.val c))
      ⊢ iprop((iprop(Ow c O ∗ xfers h c (t.val + 1) ∗ ackW h c t.val ∗ flying h c t) -∗ run c Q k) -∗ run c Q (send h t p q c k)) := by
  subst hp hq
  rw [xfers_step]
  unfold xf ackW flying
  rw [f14_val]
  iintro ⟨#HR, ⟨%W, HO⟩, ⟨⟨Hds, Hdr, Has, Har, Hcr⟩, Hx⟩, ⟨Haw, #Hra, Hac⟩, ⟨%Y, Hd⟩, Hs⟩ Hk
  ihave H1 := recs_send m h t c $$ HR
  icases H1 with ⟨%κ₁, #Hi1, #Hr1⟩
  ihave H2 := recs_recv m h t (peer h c) $$ HR
  icases H2 with ⟨%κ₂, #Hi2, #Hr2⟩
  ihave Hs' := owns_out (slotM h (par t.val)) (shareOf t.val) (val m h t.val c) $$ Hs
  icases Hs' with ⟨%f, %hf, Hs⟩
  ihave Hd' := owns_out (c := peer h c) (slotM h (par (t.val + 1))) fullShare Y $$ Hd
  icases Hd' with ⟨%g, -, Hd⟩
  have hpay₁ : ((slotM h (par t.val)).view.loc (c : Thread nD τ) ↦[(slotM h (par t.val)).view.set]{shareOf t.val} f : sProp 𝕄)
      ⊢ (ringRd m).payload (sendC h t c) 0 false := by
    rw [payload_send, ← hf]; exact owns_intro (c : Thread nD τ) (slotM h (par t.val)) (shareOf t.val) f
  have hpay₂ : iprop(((slotM h (par (t.val + 1))).view.loc (peer h c : Thread nD τ) ↦[(slotM h (par (t.val + 1))).view.set]{fullShare}
        ((slotM h (par (t.val + 1))).view.write (Elt F) g ((slotM h (par t.val)).view.read (Elt F) f) Finset.univ)) ∗ reached ER (ackC h c) t.val)
      ⊢ (ringRd (F := F) m).payload (recvC h t (peer h c)) 0 false := by
    rw [payload_recv, peer_back]
    refine sep_mono_left ?_
    have e : (slotM h (par (t.val + 1))).view.read (Elt F) ((slotM h (par (t.val + 1))).view.write (Elt F) g ((slotM h (par t.val)).view.read (Elt F) f) Finset.univ) = val m h t.val c := by
      rw [View.read_write_univ]; exact hf
    rw [← e]
    exact owns_intro (peer h c : Thread nD τ) (slotM h (par (t.val + 1))) fullShare _
  cases h
  all_goals
    iapply (Rounds.wp_send_pointsTo_with 𝒱₀ ER (ringRd m) (c : Thread nD τ) none (κ₁ := κ₁) (κ₂ := κ₂) (r₁ := 0) (r₂ := 0) (d₁ := false) (d₂ := false)
      (by rw [duties_send]; exact Finset.mem_singleton_self _) (by rw [duties_recv]; exact Finset.mem_singleton_self _)
      0 0 N rfl (amount_send m c _ t 0 false) (amount_recv m _ _ t 0 false) O hO (W := W) hpay₁ hpay₂) $$ [HO Hs Hd Hds Hdr]
    · isplitr; · iexact Hi1
      isplitr; · iexact Hi2
      isplitl [Hs]; · iexact Hs
      isplitl [Hd]
      · isplitl [Hd]; · iexact Hd
        iexact Hra
      isplitl [HO]; · iexact HO
      isplitl [Hds]; · iexact Hds
      isplitr; · iexact Hr1
      isplitl [Hdr]; · iexact Hdr
      iexact Hr2
    iintro ⟨Hcs, HO⟩
    iapply Hk
    isplitl [HO]; · iexists W; iexact HO
    isplitl [Hx]; · iexact Hx
    isplitl [Haw Hac]
    · isplitl [Haw]; · iexact Haw
      isplitr; · iexact Hra
      iexact Hac
    isplitl [Has]; · iexact Has
    isplitl [Har]; · iexact Har
    isplitl [Hcr] <;> iassumption

variable {k₁ k₂ a₁ a₂ : ℕ}

/-- The two waits of transfer `t`: the source comes back and the neighbour's slot has arrived. -/
theorem run_sendWait (h : Bool) (t : Fin 14) (p q : Fin 2) (hp : p = par t.val) (hq : q = par (t.val + 1)) (k : ℙ)
    (h₁ : t.val < k₁) (h₂ : t.val < k₂) (h₃ : t.val ≤ a₁) (h₄ : t.val ≤ a₂) :
    iprop(recs m ∗ levAts L lv ∗ Ow c (OW c k₁ k₂ a₁ a₂) ∗ flying h c t ∗ done h c t.val)
      ⊢ iprop((iprop(Ow c (OW c k₁ k₂ a₁ a₂) ∗ done h c (t.val + 1) ∗ owns (c : Thread nD τ) (slotM h p) (shareOf t.val) (val m h t.val c)
          ∗ owns (c : Thread nD τ) (slotM h q) fullShare (val m h t.val (peer (!h) c)) ∗ reached ER (ackC h (peer (!h) c)) t.val) -∗ run c Q k)
        -∗ run c Q (sendWait h t p q k)) := by
  subst hp hq
  rw [done_step]
  unfold flying
  iintro ⟨#HR, #Hl, ⟨%W, HO⟩, ⟨Has, Har, Hcr, Hcs⟩, Hdone⟩ Hk
  ihave H1 := recs_send m h t c $$ HR
  icases H1 with ⟨%κ₁, #Hi1, #Hr1⟩
  ihave H2 := recs_recv m h t c $$ HR
  icases H2 with ⟨%κ₂, #Hi2, #Hr2⟩
  iapply (Rounds.wp_wait_rest_token 𝒱₀ ER (ringRd m) (c : Thread nD τ) none (κ := κ₁)
      (wpE_waitDma2_eq 𝒱₀ (c : Thread nD τ) none Set.univ) (Set.mem_univ _) 0 (O := OW c k₁ k₂ a₁ a₂) (W := W) (R := 0) (m := 0) (T := ∅)
      (by rw [Nat.zero_add, expect_send])) $$ [Hcs HO Has]
  · isplitr; · iexact Hi1
    isplitl [Hcs]; · iexact Hcs
    isplitl [HO]; · iexact HO
    isplitr; · iapply (mayWait c (.dma (sendS h t)) 0 0 (by decide) (lv_send h t c 0).le (by omega) (by omega) (by omega) (by omega)); iexact Hl
    iexact Has
  iintro ⟨HO, Has, -, Hps⟩
  ihave Hps := (Entails.of_eq (rest_send m c h t)) $$ Hps
  iapply (Rounds.wp_wait_rest_token 𝒱₀ ER (ringRd m) (c : Thread nD τ) none (κ := κ₂)
      (wpE_waitDma2_eq 𝒱₀ (c : Thread nD τ) none Set.univ) (Set.mem_univ _) 0 (O := OW c k₁ k₂ a₁ a₂) (R := 0) (m := 0) (T := ∅)
      (by rw [Nat.zero_add, expect_recv])) $$ [Hcr HO Har]
  · isplitr; · iexact Hi2
    isplitl [Hcr]; · iexact Hcr
    isplitl [HO]; · iexact HO
    isplitr; · iapply (mayWait c (.dma (recvS h t)) 0 (2 * t.val + 2) (by decide) (lv_recv h t c 0).le (by omega) (by omega) (by omega) (by omega)); iexact Hl
    iexact Har
  iintro ⟨HO, Har, -, Hpr⟩
  ihave Hpr := (Entails.of_eq (rest_recv m c h t)) $$ Hpr
  icases Hpr with ⟨Hq, #Hre⟩
  imod (Rounds.cell_close ER (ringRd m) (Set.mem_univ κ₁) (fun h => h) (R := 0 + 1) (later_send m c h t)) $$ [Has] with Hzs
  · isplitr; · iexact Hi1
    iexact Has
  imod (Rounds.cell_close ER (ringRd m) (Set.mem_univ κ₂) (fun h => h) (R := 0 + 1) (later_recv m c h t)) $$ [Har] with Hzr
  · isplitr; · iexact Hi2
    iexact Har
  iapply Hk
  isplitl [HO]; · iexists _; iexact HO
  isplitl [Hzs Hzr Hdone]
  · isplitl [Hzs Hzr]
    · isplitl [Hzs] <;> iassumption
    iexact Hdone
  isplitl [Hps]; · iexact Hps
  isplitl [Hq]; · iexact Hq
  iexact Hre

/-- Acknowledgement `r`: the device's own slot goes to the neighbour its arrivals come from. -/
theorem run_ack (h : Bool) {r : ℕ} (hr : r < 13) (k : ℙ) {O₁ O : CellTallies nD τ sig ℕ} (hO : O₁ = O + tallyAt (ackC h (peer (!h) c)) r 1) :
    iprop(recs m ∗ Ow c O₁ ∗ ackG h c r ∗ free h (par r) c ∗ reached ER (ackC h (peer (!h) c)) r)
      ⊢ iprop((iprop(Ow c O ∗ ackG h c (r + 1)) -∗ run c Q k) -∗ run c Q (ack h c k)) := by
  unfold ackG
  rw [bigSep_Ico_succ_bot hr]
  iintro ⟨#HR, ⟨%W, HO⟩, ⟨Hd, Hg⟩, Hf, #Hre⟩ Hk
  ihave H1 := recs_ack m h (peer (!h) c) $$ HR
  icases H1 with ⟨%κ, #Hi, -⟩
  iapply (Rounds.wp_signal 𝒱₀ ER (ringRd m) (c : Thread nD τ) none (dst := (peer (!h) c : Thread nD τ)) (κ := κ) (r := r)
      (d := false) (by rw [duties_ack m _ h hr]; exact Finset.mem_singleton_self _) ((amount_ack m (peer (!h) c) h r false).trans (by decide)) r O hO) $$ [HO Hd Hf]
  · isplitr; · iexact Hi
    isplitl [HO]; · iexact HO
    isplitl [Hd]; · iexact Hd
    isplitl [Hf]
    · rw [payload_ack, peer_forth]; iexact Hf
    · iexact Hre
  iintro HO
  iapply Hk
  isplitl [HO]; · iexists W; iexact HO
  iexact Hg

/-- The wait for acknowledgement `r`: the neighbour's slot may be written. -/
theorem run_ackWait (h : Bool) {r : ℕ} (hr : r < 13) (k : ℙ) (h₁ : r < k₁) (h₂ : r < k₂) (h₃ : r < a₁) (h₄ : r < a₂) :
    iprop(recs m ∗ levAts L lv ∗ Ow c (OW c k₁ k₂ a₁ a₂) ∗ ackW h c r)
      ⊢ iprop((iprop(Ow c (OW c k₁ k₂ a₁ a₂) ∗ ackW h c (r + 1) ∗ free h (par r) (peer h c)) -∗ run c Q k) -∗ run c Q (ackWait h k)) := by
  unfold ackW
  rw [bigSep_Ico_succ_bot hr]
  iintro ⟨#HR, #Hl, ⟨%W, HO⟩, Hat, -, Hc, Hcs⟩ Hk
  ihave H1 := recs_ack m h c $$ HR
  icases H1 with ⟨%κ, #Hi, -⟩
  iapply (Rounds.wp_wait_rest_token 𝒱₀ ER (ringRd m) (c : Thread nD τ) none (κ := κ)
      (wpE_semWait_eq 𝒱₀ (c : Thread nD τ) none Set.univ) (Set.mem_univ _) r (O := OW c k₁ k₂ a₁ a₂) (W := W) (R := r) (m := 0) (T := ∅)
      (by rw [expect_ack m c h hr]; decide)) $$ [Hc HO Hat]
  · isplitr; · iexact Hi
    isplitl [Hc]; · iexact Hc
    isplitl [HO]; · iexact HO
    isplitr; · iapply (mayWait c (.reg (ackS h)) r (2 * r + 3) (by omega) (lv_ack h c r).le (by omega) (by omega) (by omega) (by omega)); iexact Hl
    iexact Hat
  iintro ⟨HO, Hat, Hre, Hp⟩
  ihave Hp := (Entails.of_eq (rest_ack m c h hr)) $$ Hp
  iapply Hk
  isplitl [HO]; · iexists _; iexact HO
  isplitl [Hat Hre Hcs]
  · isplitl [Hat]; · iexact Hat
    isplitl [Hre] <;> iassumption
  iexact Hp

/-- The entry barrier: each device lends slot 1 of each direction to the neighbour that writes it. -/
theorem run_barrier (k : ℙ) :
    iprop(recs m ∗ levAts L lv ∗ Ow c (O₀ c) ∗ dutyTok ER (barC (peer false c)) 0 true ∗ dutyTok ER (barC (peer true c)) 0 false
        ∗ free true 1 c ∗ free false 1 c ∗ cred (tallyAt (barC c) 0 2) ∗ atPos ER (barC c) 0 ∅ 0)
      ⊢ iprop((iprop(Ow c (OW c 0 0 0 0) ∗ semVal (barC c) 0 ∗ free true 1 (peer true c) ∗ free false 1 (peer false c)) -∗ run c Q k) -∗ run c Q (barrier c k)) := by
  iintro ⟨#HR, #Hl, ⟨%W, HO⟩, HdF, HdT, HfT, HfF, Hc, Hat⟩ Hk
  ihave H1 := recs_bar m (peer false c) $$ HR
  icases H1 with ⟨%κ₁, #Hi1, #Hr1⟩
  ihave H2 := recs_bar m (peer true c) $$ HR
  icases H2 with ⟨%κ₂, #Hi2, #Hr2⟩
  ihave H3 := recs_bar m c $$ HR
  icases H3 with ⟨%κ, #Hi, -⟩
  iapply (Rounds.wp_signal 𝒱₀ ER (ringRd m) (c : Thread nD τ) none (dst := (peer false c : Thread nD τ)) (κ := κ₁) (r := 0)
      (d := true) (by rw [duties_bar]; exact Finset.mem_univ _) ((amount_bar m (peer false c) 0 true).trans (by decide)) 0
      (OW c 0 0 0 0 + tallyAt (barC (peer true c)) 0 1) rfl) $$ [HO HdF HfT]
  · isplitr; · iexact Hi1
    isplitl [HO]; · iexact HO
    isplitl [HdF]; · iexact HdF
    isplitl [HfT]
    · rw [payload_bar, show peer true (peer false c) = c from peer_forth true c]; iexact HfT
    · iexact Hr1
  iintro HO
  iapply (Rounds.wp_signal 𝒱₀ ER (ringRd m) (c : Thread nD τ) none (dst := (peer true c : Thread nD τ)) (κ := κ₂) (r := 0)
      (d := false) (by rw [duties_bar]; exact Finset.mem_univ _) ((amount_bar m (peer true c) 0 false).trans (by decide)) 0
      (OW c 0 0 0 0) rfl) $$ [HO HdT HfF]
  · isplitr; · iexact Hi2
    isplitl [HO]; · iexact HO
    isplitl [HdT]; · iexact HdT
    isplitl [HfF]
    · rw [payload_bar, show peer false (peer true c) = c from peer_forth false c]; iexact HfF
    · iexact Hr2
  iintro HO
  iapply (Rounds.wp_wait_rest_token 𝒱₀ ER (ringRd m) (c : Thread nD τ) none (κ := κ)
      (wpE_semWait_eq 𝒱₀ (c : Thread nD τ) none Set.univ) (Set.mem_univ _) 0 (O := OW c 0 0 0 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait c (.reg barS) 0 1 (by decide) (lv_bar c 0).le (by omega) (by omega) (by omega) (by omega)); iexact Hl
    iexact Hat
  iintro ⟨HO, Hat, -, Hp⟩
  ihave Hp := (Entails.of_eq (rest_bar m c)) $$ Hp
  icases Hp with ⟨HpT, HpF⟩
  imod (Rounds.cell_close ER (ringRd m) (Set.mem_univ κ) (fun h => h) (R := 0 + 1) (later_bar m c)) $$ [Hat] with Hz
  · isplitr; · iexact Hi
    iexact Hat
  iapply Hk
  isplitl [HO]; · iexists _; iexact HO
  isplitl [Hz]; · iexact Hz
  isplitl [HpT] <;> iassumption

end Steps

end Cert.KernelIdeal.Ring

end
-- ==== Proof.KernelIdealBody.lean ====
/- The two halves of the body: the reduce-scatter steps, each from one state of the ring to the next, and the all-gather
   steps with the copies to the result. -/
module

public import proofs.«01_k».proof.Proof.KernelIdealSteps

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "ℙ" => Prog (TpuEff nD τ sig (Elt F) Λ₀ Proc.tc) PUnit

variable (m : (ℓ : Loc nD τ sig) → Buf (Elt F) ℓ)

theorem par_two (s : ℕ) : par (s + 2) = par s := Fin.ext (by show (s + 2) % 2 = s % 2; omega)
theorem par_seven (t : ℕ) : par (t + 7) = par (t + 1) := Fin.ext (by show (t + 7) % 2 = (t + 1) % 2; omega)
theorem par_eight (t : ℕ) : par (t + 8) = par t := Fin.ext (by show (t + 8) % 2 = t % 2; omega)
theorem par_six (t : ℕ) : par (t + 6) = par t := Fin.ext (by show (t + 6) % 2 = t % 2; omega)

/-! ## The reduce-scatter -/

/-- What the products work on: the arguments, the staging buffers and the buffers of the device's own products. -/
def locals (c : Dev nD) : sProp 𝕄 :=
  iprop(argO c (xOf m c) (wOf m c) ∗ scrO c ∗ (∃ Y, owns (c : Thread nD τ) (locM true) fullShare Y) ∗ (∃ Y, owns (c : Thread nD τ) (locM false) fullShare Y))
/-- A direction before step `s`: the partial sum in its slot, the neighbour's other slot free. -/
def rsD (h : Bool) (c : Dev nD) (s : ℕ) : sProp 𝕄 :=
  iprop(xfers h c s ∗ done h c s ∗ ackG h c s ∗ ackW h c s ∗ free h (par (s + 1)) (peer h c) ∗ owns (c : Thread nD τ) (slotM h (par s)) fullShare (acc m h s c))
/-- A direction after step `s`: the next partial sum in the other slot. -/
def rsE (h : Bool) (c : Dev nD) (s : ℕ) : sProp 𝕄 :=
  iprop(xfers h c (s + 1) ∗ done h c (s + 1) ∗ ackG h c (s + 1) ∗ ackW h c s ∗ owns (c : Thread nD τ) (slotM h (par (s + 1))) fullShare (acc m h (s + 1) c))
def rs (c : Dev nD) (s : ℕ) : sProp 𝕄 := iprop(Ow c (OW c s s s s) ∗ locals m c ∗ rsD m true c s ∗ rsD m false c s)
def rs' (c : Dev nD) (s : ℕ) : sProp 𝕄 := iprop(Ow c (OW c (s + 1) (s + 1) (s + 1) (s + 1)) ∗ locals m c ∗ rsE m true c s ∗ rsE m false c s)

section Halves
variable {c : Dev nD} {Q : PUnit.{1} → sProp (MT nD τ sig ℕ (Elt F) ℕ UU ℕ)}

theorem run_rsStep (s : Fin 7) (k : ℙ) :
    iprop(recs m ∗ levAts L lv ∗ rs m c s.val) ⊢ iprop((rs' m c s.val -∗ run c Q k) -∗ run c Q (rsStep s c k)) := by
  unfold rs rs' rsD rsE locals
  rw [← val_rs m true s c, ← val_rs m false s c]
  iintro ⟨#HR, #Hl, HO, ⟨Harg, Hscr, ⟨%Ya, Hya⟩, %Yb, Hyb⟩, ⟨Hx, Hd, Hg, Hw, Hf, Hs⟩, Hx', Hd', Hg', Hw', Hf', Hs'⟩ Hk
  iapply (run_send m true (tr1 s) (par s.val) (par (s.val + 1)) rfl rfl _ (OW_sendT c (tr1 s) s.val s.val s.val)) $$ [HO Hx Hw Hf Hs]
  · isplitr; · iexact HR
    isplitl [HO]; · iexact HO
    isplitl [Hx]; · iexact Hx
    isplitl [Hw]; · iexact Hw
    isplitl [Hf]; · iexact Hf
    rw [show shareOf (tr1 s).val = fullShare from if_pos s.isLt]; iexact Hs
  iintro ⟨HO, Hx, Hw, Hfl⟩
  iapply (run_send m false (tr1 s) (par s.val) (par (s.val + 1)) rfl rfl _ (OW_sendF c (tr1 s) (s.val + 1) s.val s.val)) $$ [HO Hx' Hw' Hf' Hs']
  · isplitr; · iexact HR
    isplitl [HO]; · iexact HO
    isplitl [Hx']; · iexact Hx'
    isplitl [Hw']; · iexact Hw'
    isplitl [Hf']; · iexact Hf'
    rw [show shareOf (tr1 s).val = fullShare from if_pos s.isLt]; iexact Hs'
  iintro ⟨HO, Hx', Hw', Hfl'⟩
  iapply (run_gemm false _ _ (k0_off3_inb c s) (k0_off4_inb c s) _ (xOf m c) (wOf m c) Ya Yb) $$ [HO Harg Hscr Hya Hyb]
  · isplitr; · iexact Hl
    isplitl [HO]; · iexact HO
    isplitl [Harg]; · iexact Harg
    isplitl [Hscr]; · iexact Hscr
    isplitl [Hya] <;> iassumption
  iintro ⟨HO, Harg, Hscr, Hya, Hyb⟩
  iapply (run_sendWait m true (tr1 s) (par s.val) (par (s.val + 1)) rfl rfl _ (Nat.lt_succ_self _) (Nat.lt_succ_self _) le_rfl le_rfl) $$ [HO Hfl Hd]
  · isplitr; · iexact HR
    isplitr; · iexact Hl
    isplitl [HO]; · iexact HO
    isplitl [Hfl] <;> iassumption
  iintro ⟨HO, Hd, Hp, Hq, #Hre⟩
  iapply (run_sendWait m false (tr1 s) (par s.val) (par (s.val + 1)) rfl rfl _ (Nat.lt_succ_self _) (Nat.lt_succ_self _) le_rfl le_rfl) $$ [HO Hfl' Hd']
  · isplitr; · iexact HR
    isplitr; · iexact Hl
    isplitl [HO]; · iexact HO
    isplitl [Hfl'] <;> iassumption
  iintro ⟨HO, Hd', Hp', Hq', #Hre'⟩
  rw [show shareOf (tr1 s).val = fullShare from if_pos s.isLt]
  iapply (run_ack m true (r := s.val) (by omega) _ (OW_ackT c (s.val + 1) (s.val + 1) s.val (by omega))) $$ [HO Hg Hp]
  · isplitr; · iexact HR
    isplitl [HO]; · iexact HO
    isplitl [Hg]; · iexact Hg
    isplitl [Hp]; · iexists _; iexact Hp
    iexact Hre
  iintro ⟨HO, Hg⟩
  iapply (run_ack m false (r := s.val) (by omega) _ (OW_ackF c (s.val + 1) (s.val + 1) (s.val + 1) (by omega))) $$ [HO Hg' Hp']
  · isplitr; · iexact HR
    isplitl [HO]; · iexact HO
    isplitl [Hg']; · iexact Hg'
    isplitl [Hp']; · iexists _; iexact Hp'
    iexact Hre'
  iintro ⟨HO, Hg'⟩
  iapply (run_accum true (par (s.val + 1)) _ _ _) $$ [Hq Hya]
  · isplitl [Hq] <;> iassumption
  iintro ⟨Hq, Hya⟩
  iapply (run_accum false (par (s.val + 1)) _ _ _) $$ [Hq' Hyb]
  · isplitl [Hq'] <;> iassumption
  iintro ⟨Hq', Hyb⟩
  iapply Hk
  rw [acc_succ, acc_succ]
  isplitl [HO]; · iexact HO
  isplitl [Harg Hscr Hya Hyb]
  · isplitl [Harg]; · iexact Harg
    isplitl [Hscr]; · iexact Hscr
    isplitl [Hya]; · iexists _; iexact Hya
    iexists _; iexact Hyb
  isplitl [Hx Hd Hg Hw Hq]
  · isplitl [Hx]; · iexact Hx
    isplitl [Hd]; · iexact Hd
    isplitl [Hg]; · iexact Hg
    isplitl [Hw]; · iexact Hw
    iexact Hq
  · isplitl [Hx']; · iexact Hx'
    isplitl [Hd']; · iexact Hd'
    isplitl [Hg']; · iexact Hg'
    isplitl [Hw']; · iexact Hw'
    iexact Hq'

/-- Step `s` and the two acknowledgements before the next. -/
theorem run_rsNext (s : Fin 7) (k : ℙ) :
    iprop(recs m ∗ levAts L lv ∗ rs m c s.val) ⊢ iprop((rs m c (s.val + 1) -∗ run c Q k) -∗ run c Q (rsStep s c (acks k))) := by
  iintro ⟨#HR, #Hl, H⟩ Hk
  iapply (run_rsStep m s _) $$ [H]
  · isplitr; · iexact HR
    isplitr; · iexact Hl
    iexact H
  unfold rs rs' rsD rsE
  iintro ⟨HO, Hloc, ⟨Hx, Hd, Hg, Hw, Hs⟩, Hx', Hd', Hg', Hw', Hs'⟩
  iapply (run_ackWait m true (r := s.val) (by omega) _ (Nat.lt_succ_self _) (Nat.lt_succ_self _) (Nat.lt_succ_self _) (Nat.lt_succ_self _)) $$ [HO Hw]
  · isplitr; · iexact HR
    isplitr; · iexact Hl
    isplitl [HO] <;> iassumption
  iintro ⟨HO, Hw, Hf⟩
  iapply (run_ackWait m false (r := s.val) (by omega) _ (Nat.lt_succ_self _) (Nat.lt_succ_self _) (Nat.lt_succ_self _) (Nat.lt_succ_self _)) $$ [HO Hw']
  · isplitr; · iexact HR
    isplitr; · iexact Hl
    isplitl [HO] <;> iassumption
  iintro ⟨HO, Hw', Hf'⟩
  iapply Hk
  rw [show par (s.val + 1 + 1) = par s.val from par_two s.val]
  isplitl [HO]; · iexact HO
  isplitl [Hloc]; · iexact Hloc
  isplitl [Hx Hd Hg Hw Hf Hs]
  · isplitl [Hx]; · iexact Hx
    isplitl [Hd]; · iexact Hd
    isplitl [Hg]; · iexact Hg
    isplitl [Hw]; · iexact Hw
    isplitl [Hf] <;> iassumption
  · isplitl [Hx']; · iexact Hx'
    isplitl [Hd']; · iexact Hd'
    isplitl [Hg']; · iexact Hg'
    isplitl [Hw']; · iexact Hw'
    isplitl [Hf'] <;> iassumption

/-- What a device pays at and holds of the entry barrier. -/
def barO (c : Dev nD) : sProp 𝕄 :=
  iprop(dutyTok ER (barC (peer false c)) 0 true ∗ dutyTok ER (barC (peer true c)) 0 false ∗ cred (tallyAt (barC c) 0 2) ∗ atPos ER (barC c) 0 ∅ 0)
/-- A direction at the start: both slots at hand. -/
def startD (h : Bool) (c : Dev nD) : sProp 𝕄 :=
  iprop(xfers h c 0 ∗ done h c 0 ∗ ackG h c 0 ∗ ackW h c 0 ∗ free h 0 c ∗ free h 1 c)
/-- A direction between the halves: the activated sum in slot 1. -/
def midD (h : Bool) (c : Dev nD) : sProp 𝕄 :=
  iprop(xfers h c 7 ∗ done h c 7 ∗ ackG h c 7 ∗ ackW h c 6 ∗ owns (c : Thread nD τ) (slotM h 1) fullShare (val m h 7 c))

theorem run_half1 (k : ℙ) :
    iprop(recs m ∗ levAts L lv ∗ Ow c (O₀ c) ∗ barO c ∗ locals m c ∗ startD true c ∗ startD false c)
      ⊢ iprop((iprop(Ow c (OW c 7 7 7 7) ∗ semVal (barC c) 0 ∗ locals m c ∗ midD m true c ∗ midD m false c) -∗ run c Q k) -∗ run c Q (half1 c k)) := by
  unfold barO startD half1
  iintro ⟨#HR, #Hl, HO, ⟨HdF, HdT, Hc, Hat⟩, Hloc, ⟨Hx, Hd, Hg, Hw, ⟨%Y, Hf0⟩, Hf1⟩, Hx', Hd', Hg', Hw', ⟨%Y', Hf0'⟩, Hf1'⟩ Hk
  iapply (run_barrier m _) $$ [HO HdF HdT Hc Hat Hf1 Hf1']
  · isplitr; · iexact HR
    isplitr; · iexact Hl
    isplitl [HO]; · iexact HO
    isplitl [HdF]; · iexact HdF
    isplitl [HdT]; · iexact HdT
    isplitl [Hf1]; · iexact Hf1
    isplitl [Hf1']; · iexact Hf1'
    isplitl [Hc] <;> iassumption
  iintro ⟨HO, Hz, Hn, Hn'⟩
  unfold locals
  icases Hloc with ⟨Harg, Hscr, Hya, Hyb⟩
  iapply (run_gemm true _ _ (k0_off1_inb c) (k0_off2_inb c) _ (xOf m c) (wOf m c) Y Y') $$ [HO Harg Hscr Hf0 Hf0']
  · isplitr; · iexact Hl
    isplitl [HO]; · iexact HO
    isplitl [Harg]; · iexact Harg
    isplitl [Hscr]; · iexact Hscr
    isplitl [Hf0] <;> iassumption
  iintro ⟨HO, Harg, Hscr, Hs, Hs'⟩
  ihave Hst : rs m c 0 $$ [HO Harg Hscr Hya Hyb Hx Hd Hg Hw Hn Hs Hx' Hd' Hg' Hw' Hn' Hs']
  · unfold rs rsD locals
    isplitl [HO]; · iexact HO
    isplitl [Harg Hscr Hya Hyb]
    · isplitl [Harg]; · iexact Harg
      isplitl [Hscr]; · iexact Hscr
      isplitl [Hya] <;> iassumption
    isplitl [Hx Hd Hg Hw Hn Hs]
    · isplitl [Hx]; · iexact Hx
      isplitl [Hd]; · iexact Hd
      isplitl [Hg]; · iexact Hg
      isplitl [Hw]; · iexact Hw
      isplitl [Hn]; · iexact Hn
      iexact Hs
    · isplitl [Hx']; · iexact Hx'
      isplitl [Hd']; · iexact Hd'
      isplitl [Hg']; · iexact Hg'
      isplitl [Hw']; · iexact Hw'
      isplitl [Hn']; · iexact Hn'
      iexact Hs'
  iapply (run_rsNext m 0 _) $$ [Hst]
  · isplitr; · iexact HR
    isplitr; · iexact Hl
    iexact Hst
  iintro Hst
  iapply (run_rsNext m 1 _) $$ [Hst]
  · isplitr; · iexact HR
    isplitr; · iexact Hl
    iexact Hst
  iintro Hst
  iapply (run_rsNext m 2 _) $$ [Hst]
  · isplitr; · iexact HR
    isplitr; · iexact Hl
    iexact Hst
  iintro Hst
  iapply (run_rsNext m 3 _) $$ [Hst]
  · isplitr; · iexact HR
    isplitr; · iexact Hl
    iexact Hst
  iintro Hst
  iapply (run_rsNext m 4 _) $$ [Hst]
  · isplitr; · iexact HR
    isplitr; · iexact Hl
    iexact Hst
  iintro Hst
  iapply (run_rsNext m 5 _) $$ [Hst]
  · isplitr; · iexact HR
    isplitr; · iexact Hl
    iexact Hst
  iintro Hst
  iapply (run_rsStep m 6 _) $$ [Hst]
  · isplitr; · iexact HR
    isplitr; · iexact Hl
    iexact Hst
  unfold rs' rsE midD locals
  rw [val_seven, val_seven]
  iintro ⟨HO, Hloc, ⟨Hx, Hd, Hg, Hw, Hs⟩, Hx', Hd', Hg', Hw', Hs'⟩
  iapply (run_activate (c := c) true _ (acc m true 7 c)) $$ [Hs]
  · iexact Hs
  iintro Hs
  iapply (run_activate (c := c) false _ (acc m false 7 c)) $$ [Hs']
  · iexact Hs'
  iintro Hs'
  iapply Hk
  isplitl [HO]; · iexact HO
  isplitl [Hz]; · iexact Hz
  isplitl [Hloc]; · iexact Hloc
  isplitl [Hx Hd Hg Hw Hs]
  · isplitl [Hx]; · iexact Hx
    isplitl [Hd]; · iexact Hd
    isplitl [Hg]; · iexact Hg
    isplitl [Hw]; · iexact Hw
    iexact Hs
  · isplitl [Hx']; · iexact Hx'
    isplitl [Hd']; · iexact Hd'
    isplitl [Hg']; · iexact Hg'
    isplitl [Hw']; · iexact Hw'
    iexact Hs'

end Halves

/-! ## The all-gather -/

/-- A natural number as a number of a store. -/
abbrev f8 (j : ℕ) : Fin 8 := ⟨j % 8, Nat.mod_lt _ (by decide)⟩
theorem f8_val (t : Fin 8) : f8 t.val = t := Fin.ext (Nat.mod_eq_of_lt t.isLt)
/-- The rows of store `t` of a direction. -/
abbrev oRows (h : Bool) (c : Dev nD) (t : Fin 8) := orowM (oOff h c t) (oOff_inb h c t)
/-- The rows stored, and those still to store. -/
def outDone (h : Bool) (c : Dev nD) (t : ℕ) : sProp 𝕄 :=
  bigSep (Finset.range t) fun j => owns (c : Thread nD τ) (oRows h c (f8 j)) fullShare (val m h (j + 7) c)
def outRest (h : Bool) (c : Dev nD) (t : ℕ) : sProp 𝕄 :=
  bigSep (Finset.Ico t 8) fun j => iprop(∃ Y : S256x8192.Idx → Elt F .f32, owns (c : Thread nD τ) (oRows h c (f8 j)) fullShare Y)
theorem outDone_step (h : Bool) (c : Dev nD) (t : Fin 8) :
    outDone m h c (t.val + 1) = iprop(owns (c : Thread nD τ) (oRows h c t) fullShare (val m h (t.val + 7) c) ∗ outDone m h c t.val) := by
  unfold outDone; rw [bigSep_range_succ, f8_val]
theorem outRest_step (h : Bool) (c : Dev nD) (t : Fin 8) :
    (outRest h c t.val : sProp 𝕄) = iprop((∃ Y : S256x8192.Idx → Elt F .f32, owns (c : Thread nD τ) (oRows h c t) fullShare Y) ∗ outRest h c (t.val + 1)) := by
  unfold outRest; rw [bigSep_Ico_succ_bot t.isLt, f8_val]

/-- A direction before all-gather step `t`: its half chunk in a slot, half of it lent to the store under way. -/
def agD (h : Bool) (c : Dev nD) (t : Fin 8) (a : ℕ) : sProp 𝕄 :=
  iprop(xfers h c (t.val + 7) ∗ done h c (t.val + 7) ∗ ackG h c a ∗ ackW h c (t.val + 6)
    ∗ owns (c : Thread nD τ) (slotM h (par (t.val + 1))) fullShare.left (val m h (t.val + 7) c)
    ∗ storing c h (par (t.val + 1)) (oOff h c t) (oOff_inb h c t) (val m h (t.val + 7) c) ∗ outDone m h c t.val ∗ outRest h c (t.val + 1))
def ag (c : Dev nD) (t : Fin 8) (a : ℕ) : sProp 𝕄 := iprop(Ow c (OW c (t.val + 7) (t.val + 7) a a) ∗ agD m true c t a ∗ agD m false c t a)

section Gather
variable {c : Dev nD} {Q : PUnit.{1} → sProp (MT nD τ sig ℕ (Elt F) ℕ UU ℕ)}

theorem free_of_halves (h : Bool) (p : Fin 2) (X : S256x8192.Idx → Elt F .f32) :
    iprop(owns (c : Thread nD τ) (slotM h p) fullShare.left X ∗ owns (c : Thread nD τ) (slotM h p) fullShare.right X) ⊢ (free h p c : sProp 𝕄) := by
  unfold free
  iintro H
  iexists X
  iapply (owns_halves (c : Thread nD τ) (slotM h p) fullShare X).2
  iexact H

/-- The store of a received half chunk: the slot is split into the half the transfer reads and the half the store reads. -/
theorem run_keep (h : Bool) (p : Fin 2) (t : Fin 8) (k : ℙ) (X : S256x8192.Idx → Elt F .f32) :
    iprop(owns (c : Thread nD τ) (slotM h p) fullShare X ∗ outRest h c t.val ∗ semVal ((c : Thread nD τ), .dma (stS h)) 0)
      ⊢ iprop((iprop(owns (c : Thread nD τ) (slotM h p) fullShare.left X ∗ storing c h p (oOff h c t) (oOff_inb h c t) X ∗ outRest h c (t.val + 1)) -∗ run c Q k)
        -∗ run c Q (oStore h p (oOff h c t) (oOff_inb h c t) k)) := by
  rw [outRest_step]
  iintro ⟨HX, ⟨⟨%Y, HY⟩, Hr⟩, Hz⟩ Hk
  ihave HX := (owns_halves (c : Thread nD τ) (slotM h p) fullShare X).1 $$ HX
  icases HX with ⟨Hl, HX⟩
  iapply (run_oStore h p (oOff h c t) (oOff_inb h c t) k X Y) $$ [HX HY Hz]
  · isplitl [HX]; · iexact HX
    isplitl [HY] <;> iassumption
  iintro Hs
  iapply Hk
  isplitl [Hl]; · iexact Hl
  isplitl [Hs] <;> iassumption

/-- What is left when no acknowledgement is given: the slot. -/
def spare (b : Bool) (h : Bool) (c : Dev nD) (r : ℕ) : sProp 𝕄 := match b with | true => iprop(emp) | false => free h (par r) c

theorem run_ackIf (b : Bool) (r : ℕ) (hr : b = true → r < 13) (k : ℙ) {l : ℕ} :
    iprop(recs m ∗ Ow c (OW c l l r r) ∗ (ackG true c r ∗ free true (par r) c ∗ reached ER (ackC true (peer false c)) r)
        ∗ ackG false c r ∗ free false (par r) c ∗ reached ER (ackC false (peer true c)) r)
      ⊢ iprop((iprop(Ow c (OW c l l (r + b.toNat) (r + b.toNat)) ∗ (ackG true c (r + b.toNat) ∗ spare b true c r) ∗ ackG false c (r + b.toNat) ∗ spare b false c r) -∗ run c Q k)
        -∗ run c Q (ackIf b c k)) := by
  iintro ⟨#HR, HO, ⟨Hg, Hf, #Hre⟩, Hg', Hf', #Hre'⟩ Hk
  cases b
  · iapply Hk
    isplitl [HO]; · iexact HO
    isplitl [Hg Hf]
    · isplitl [Hg]; · iexact Hg
      unfold spare; iexact Hf
    isplitl [Hg']; · iexact Hg'
    unfold spare; iexact Hf'
  · iapply (run_ack m true (hr rfl) _ (OW_ackT c l l r (hr rfl))) $$ [HO Hg Hf]
    · isplitr; · iexact HR
      isplitl [HO]; · iexact HO
      isplitl [Hg]; · iexact Hg
      isplitl [Hf]; · iexact Hf
      iexact Hre
    iintro ⟨HO, Hg⟩
    iapply (run_ack m false (hr rfl) _ (OW_ackF c l l (r + 1) (hr rfl))) $$ [HO Hg' Hf']
    · isplitr; · iexact HR
      isplitl [HO]; · iexact HO
      isplitl [Hg']; · iexact Hg'
      isplitl [Hf']; · iexact Hf'
      iexact Hre'
    iintro ⟨HO, Hg'⟩
    iapply Hk
    isplitl [HO]; · iexact HO
    isplitl [Hg]
    · isplitl [Hg]; · iexact Hg
      unfold spare; iempintro
    isplitl [Hg']; · iexact Hg'
    unfold spare; iempintro

theorem run_agStep (t : Fin 7) (more : Bool) (hm : more = true → t.val < 6) (k : ℙ) :
    iprop(recs m ∗ levAts L lv ∗ ag m c t.castSucc (t.val + 7))
      ⊢ iprop((iprop(ag m c t.succ (t.val + 7 + more.toNat) ∗ spare more true c (t.val + 7) ∗ spare more false c (t.val + 7)) -∗ run c Q k) -∗ run c Q (agStep t more c k)) := by
  have hsh : shareOf (tr2 t).val = fullShare.left := if_neg (by show ¬ t.val + 7 < 7; omega)
  have hp : par (t.val + 1) = par (tr2 t).val := (par_seven t.val).symm
  have hq : par t.val = par ((tr2 t).val + 1) := (par_eight t.val).symm
  have e₁ : t.val + 6 < t.val + 7 := by omega
  unfold ag agD
  iintro ⟨#HR, #Hl, HO, ⟨Hx, Hd, Hg, Hw, Hs, Hst, Hod, Hor⟩, Hx', Hd', Hg', Hw', Hs', Hst', Hod', Hor'⟩ Hk
  iapply (run_ackWait m true (r := t.val + 6) (by omega) _ e₁ e₁ e₁ e₁) $$ [HO Hw]
  · isplitr; · iexact HR
    isplitr; · iexact Hl
    isplitl [HO]; · iexact HO
    iexact Hw
  iintro ⟨HO, Hw, Hf⟩
  iapply (run_ackWait m false (r := t.val + 6) (by omega) _ e₁ e₁ e₁ e₁) $$ [HO Hw']
  · isplitr; · iexact HR
    isplitr; · iexact Hl
    isplitl [HO]; · iexact HO
    iexact Hw'
  iintro ⟨HO, Hw', Hf'⟩
  rw [par_six]
  iapply (run_send m true (tr2 t) (par (t.val + 1)) (par t.val) hp hq _ (OW_sendT c (tr2 t) (t.val + 7) (t.val + 7) (t.val + 7))) $$ [HO Hx Hw Hf Hs]
  · isplitr; · iexact HR
    isplitl [HO]; · iexact HO
    isplitl [Hx]; · iexact Hx
    isplitl [Hw]; · iexact Hw
    isplitl [Hf]; · iexact Hf
    rw [hsh]; iexact Hs
  iintro ⟨HO, Hx, Hw, Hfl⟩
  iapply (run_send m false (tr2 t) (par (t.val + 1)) (par t.val) hp hq _ (OW_sendF c (tr2 t) (t.val + 7 + 1) (t.val + 7) (t.val + 7))) $$ [HO Hx' Hw' Hf' Hs']
  · isplitr; · iexact HR
    isplitl [HO]; · iexact HO
    isplitl [Hx']; · iexact Hx'
    isplitl [Hw']; · iexact Hw'
    isplitl [Hf']; · iexact Hf'
    rw [hsh]; iexact Hs'
  iintro ⟨HO, Hx', Hw', Hfl'⟩
  iapply (run_sendWait m true (tr2 t) (par (t.val + 1)) (par t.val) hp hq _ (Nat.lt_succ_self _) (Nat.lt_succ_self _) le_rfl le_rfl) $$ [HO Hfl Hd]
  · isplitr; · iexact HR
    isplitr; · iexact Hl
    isplitl [HO]; · iexact HO
    isplitl [Hfl]; · iexact Hfl
    iexact Hd
  iintro ⟨HO, Hd, Hp, Hq, #Hre⟩
  iapply (run_sendWait m false (tr2 t) (par (t.val + 1)) (par t.val) hp hq _ (Nat.lt_succ_self _) (Nat.lt_succ_self _) le_rfl le_rfl) $$ [HO Hfl' Hd']
  · isplitr; · iexact HR
    isplitr; · iexact Hl
    isplitl [HO]; · iexact HO
    isplitl [Hfl']; · iexact Hfl'
    iexact Hd'
  iintro ⟨HO, Hd', Hp', Hq', #Hre'⟩
  rw [hsh]
  iapply (run_oWait true (par (t.val + 1)) (oOff true c t.castSucc) (oOff_inb true c t.castSucc) _ (val m true (t.val + 7) c)) $$ [HO Hst]
  · isplitr; · iexact Hl
    isplitl [Hst]; · iexact Hst
    iexact HO
  iintro ⟨⟨Hp2, Ho⟩, Hz, HO⟩
  iapply (run_oWait false (par (t.val + 1)) (oOff false c t.castSucc) (oOff_inb false c t.castSucc) _ (val m false (t.val + 7) c)) $$ [HO Hst']
  · isplitr; · iexact Hl
    isplitl [Hst']; · iexact Hst'
    iexact HO
  iintro ⟨⟨Hp2', Ho'⟩, Hz', HO⟩
  ihave Hfr := (free_of_halves true (par (t.val + 1)) (val m true (t.val + 7) c)) $$ [Hp Hp2]
  · isplitl [Hp]; · iexact Hp
    iexact Hp2
  ihave Hfr' := (free_of_halves false (par (t.val + 1)) (val m false (t.val + 7) c)) $$ [Hp' Hp2']
  · isplitl [Hp']; · iexact Hp'
    iexact Hp2'
  iapply (run_ackIf m more (t.val + 7) (fun h => by have := hm h; omega) _) $$ [HO Hg Hfr Hg' Hfr']
  · isplitr; · iexact HR
    isplitl [HO]; · iexact HO
    rw [par_seven]
    isplitl [Hg Hfr]
    · isplitl [Hg]; · iexact Hg
      isplitl [Hfr]; · iexact Hfr
      iexact Hre
    isplitl [Hg']; · iexact Hg'
    isplitl [Hfr']; · iexact Hfr'
    iexact Hre'
  iintro ⟨HO, ⟨Hg, Hsp⟩, Hg', Hsp'⟩
  iapply (run_keep true (par t.val) t.succ _ _) $$ [Hq Hor Hz]
  · isplitl [Hq]; · iexact Hq
    isplitl [Hor]; · iexact Hor
    iexact Hz
  iintro ⟨Hs, Hst, Hor⟩
  iapply (run_keep false (par t.val) t.succ _ _) $$ [Hq' Hor' Hz']
  · isplitl [Hq']; · iexact Hq'
    isplitl [Hor']; · iexact Hor'
    iexact Hz'
  iintro ⟨Hs', Hst', Hor'⟩
  iapply Hk
  have ev : ∀ h, val m h (t.succ.val + 7) c = val m h (tr2 t).val (peer (!h) c) := fun h => by
    rw [show t.succ.val + 7 = (t.val + 7) + 1 by rw [Fin.val_succ], val_succ m h (by omega)]
  have ep : par (t.succ.val + 1) = par t.val := par_two t.val
  have e7 : t.succ.val + 7 = t.val + 7 + 1 := by rw [Fin.val_succ]
  have e6 : t.succ.val + 6 = t.val + 6 + 1 := by rw [Fin.val_succ]
  have eo : ∀ h, outDone m h c t.succ.val = iprop(owns (c : Thread nD τ) (oRows h c t.castSucc) fullShare (val m h (t.val + 7) c) ∗ outDone m h c t.val) := fun h =>
    outDone_step m h c t.castSucc
  rw [ev true, ev false, ep, e7, e6, eo true, eo false]
  isplitr [Hsp Hsp']
  · isplitl [HO]; · iexact HO
    isplitl [Hx Hd Hg Hw Hs Hst Ho Hod Hor]
    · isplitl [Hx]; · iexact Hx
      isplitl [Hd]; · iexact Hd
      isplitl [Hg]; · iexact Hg
      isplitl [Hw]; · iexact Hw
      isplitl [Hs]; · iexact Hs
      isplitl [Hst]; · iexact Hst
      isplitl [Ho Hod]
      · isplitl [Ho]; · iexact Ho
        iexact Hod
      iexact Hor
    · isplitl [Hx']; · iexact Hx'
      isplitl [Hd']; · iexact Hd'
      isplitl [Hg']; · iexact Hg'
      isplitl [Hw']; · iexact Hw'
      isplitl [Hs']; · iexact Hs'
      isplitl [Hst']; · iexact Hst'
      isplitl [Ho' Hod']
      · isplitl [Ho']; · iexact Ho'
        iexact Hod'
      iexact Hor'
  isplitl [Hsp]; · iexact Hsp
  iexact Hsp'

/-- Step `t` with its acknowledgements. -/
theorem run_agNext (t : Fin 7) (ht : t.val < 6) (k : ℙ) :
    iprop(recs m ∗ levAts L lv ∗ ag m c t.castSucc (t.val + 7)) ⊢ iprop((ag m c t.succ (t.val + 8) -∗ run c Q k) -∗ run c Q (agStep t true c k)) := by
  iintro ⟨#HR, #Hl, H⟩ Hk
  iapply (run_agStep m t true (fun _ => ht) k) $$ [H]
  · isplitr; · iexact HR
    isplitr; · iexact Hl
    iexact H
  iintro ⟨H, -, -⟩
  iapply Hk
  iexact H

/-- A direction at the end: both slots at hand, every half chunk stored, every semaphore at rest. -/
def endD (h : Bool) (c : Dev nD) : sProp 𝕄 :=
  iprop(done h c 14 ∗ semVal (ackC h c) 0 ∗ free h 0 c ∗ free h 1 c ∗ outDone m h c 8 ∗ semVal ((c : Thread nD τ), .dma (stS h)) 0)

/-- A direction's last wait, and its acknowledgement semaphore closed. -/
theorem endD_intro (h : Bool) :
    iprop(recs m ∗ done h c 14 ∗ ackW h c 13 ∗ owns (c : Thread nD τ) (slotM h 0) fullShare.left (val m h 14 c) ∗ owns (c : Thread nD τ) (slotM h 0) fullShare.right (val m h 14 c)
        ∗ owns (c : Thread nD τ) (oRows h c 7) fullShare (val m h 14 c) ∗ outDone m h c 7 ∗ spare false h c 13 ∗ semVal ((c : Thread nD τ), .dma (stS h)) 0)
      ⊢ iprop(|={Set.univ}=> endD m h c) := by
  unfold endD ackW spare
  rw [show outDone m h c 8 = _ from outDone_step m h c 7]
  iintro ⟨#HR, Hd, ⟨Hat, -, -⟩, Hl, Hr, Ho, Hod, Hf, Hz⟩
  ihave H1 := recs_ack m h c $$ HR
  icases H1 with ⟨%κ, #Hi, -⟩
  imod (Rounds.cell_close ER (ringRd m) (Set.mem_univ κ) (fun h => h) (R := 13) (later_ack m c h)) $$ [Hat] with Hza
  · isplitr; · iexact Hi
    iexact Hat
  imodintro
  isplitl [Hd]; · iexact Hd
  isplitl [Hza]; · iexact Hza
  isplitl [Hl Hr]
  · iapply (free_of_halves h 0 (val m h 14 c))
    isplitl [Hl] <;> iassumption
  isplitl [Hf]; · iexact Hf
  isplitl [Ho Hod]
  · isplitl [Ho]; · iexact Ho
    iexact Hod
  iexact Hz

theorem run_half2 (k : ℙ) :
    iprop(recs m ∗ levAts L lv ∗ Ow c (OW c 7 7 7 7) ∗ (midD m true c ∗ outRest true c 0 ∗ semVal ((c : Thread nD τ), .dma (stS true)) 0)
        ∗ midD m false c ∗ outRest false c 0 ∗ semVal ((c : Thread nD τ), .dma (stS false)) 0)
      ⊢ iprop((iprop(Ow c 0 ∗ endD m true c ∗ endD m false c) -∗ run c Q k) -∗ run c Q (half2 c k)) := by
  unfold midD half2
  iintro ⟨#HR, #Hl, HO, ⟨⟨Hx, Hd, Hg, Hw, Hs⟩, Hor, Hz⟩, ⟨Hx', Hd', Hg', Hw', Hs'⟩, Hor', Hz'⟩ Hk
  iapply (run_keep true 1 0 _ _) $$ [Hs Hor Hz]
  · isplitl [Hs]; · iexact Hs
    isplitl [Hor]; · iexact Hor
    iexact Hz
  iintro ⟨Hs, Hst, Hor⟩
  iapply (run_keep false 1 0 _ _) $$ [Hs' Hor' Hz']
  · isplitl [Hs']; · iexact Hs'
    isplitl [Hor']; · iexact Hor'
    iexact Hz'
  iintro ⟨Hs', Hst', Hor'⟩
  ihave Ha : ag m c 0 7 $$ [HO Hx Hd Hg Hw Hs Hst Hor Hx' Hd' Hg' Hw' Hs' Hst' Hor']
  · unfold ag agD
    isplitl [HO]; · iexact HO
    isplitl [Hx Hd Hg Hw Hs Hst Hor]
    · isplitl [Hx]; · iexact Hx
      isplitl [Hd]; · iexact Hd
      isplitl [Hg]; · iexact Hg
      isplitl [Hw]; · iexact Hw
      isplitl [Hs]; · iexact Hs
      isplitl [Hst]; · iexact Hst
      isplitr; · unfold outDone; iempintro
      iexact Hor
    · isplitl [Hx']; · iexact Hx'
      isplitl [Hd']; · iexact Hd'
      isplitl [Hg']; · iexact Hg'
      isplitl [Hw']; · iexact Hw'
      isplitl [Hs']; · iexact Hs'
      isplitl [Hst']; · iexact Hst'
      isplitr; · unfold outDone; iempintro
      iexact Hor'
  iapply (run_agNext m 0 (by decide) _) $$ [Ha]
  · isplitr; · iexact HR
    isplitr; · iexact Hl
    iexact Ha
  iintro Ha
  iapply (run_agNext m 1 (by decide) _) $$ [Ha]
  · isplitr; · iexact HR
    isplitr; · iexact Hl
    iexact Ha
  iintro Ha
  iapply (run_agNext m 2 (by decide) _) $$ [Ha]
  · isplitr; · iexact HR
    isplitr; · iexact Hl
    iexact Ha
  iintro Ha
  iapply (run_agNext m 3 (by decide) _) $$ [Ha]
  · isplitr; · iexact HR
    isplitr; · iexact Hl
    iexact Ha
  iintro Ha
  iapply (run_agNext m 4 (by decide) _) $$ [Ha]
  · isplitr; · iexact HR
    isplitr; · iexact Hl
    iexact Ha
  iintro Ha
  iapply (run_agNext m 5 (by decide) _) $$ [Ha]
  · isplitr; · iexact HR
    isplitr; · iexact Hl
    iexact Ha
  iintro Ha
  iapply (run_agStep m 6 false (fun h => by cases h) _) $$ [Ha]
  · isplitr; · iexact HR
    isplitr; · iexact Hl
    iexact Ha
  unfold ag agD
  iintro ⟨⟨HO, ⟨-, Hd, -, Hw, Hs, Hst, Hod, -⟩, -, Hd', -, Hw', Hs', Hst', Hod', -⟩, Hsp, Hsp'⟩
  iapply (run_oWait (c := c) (k₁ := 14) (k₂ := 14) (a₁ := 13) (a₂ := 13) true 0 (oOff true c 7) (oOff_inb true c 7) _ (val m true 14 c)) $$ [HO Hst]
  · isplitr; · iexact Hl
    isplitl [Hst]; · iexact Hst
    iexact HO
  iintro ⟨⟨Hp2, Ho⟩, Hz, HO⟩
  iapply (run_oWait (c := c) (k₁ := 14) (k₂ := 14) (a₁ := 13) (a₂ := 13) false 0 (oOff false c 7) (oOff_inb false c 7) _ (val m false 14 c)) $$ [HO Hst']
  · isplitr; · iexact Hl
    isplitl [Hst']; · iexact Hst'
    iexact HO
  iintro ⟨⟨Hp2', Ho'⟩, Hz', HO⟩
  rw [OW_end]
  imod (endD_intro (c := c) m true) $$ [Hd Hw Hs Hp2 Ho Hod Hsp Hz] with He
  · isplitr; · iexact HR
    isplitl [Hd]; · iexact Hd
    isplitl [Hw]; · iexact Hw
    isplitl [Hs]; · iexact Hs
    isplitl [Hp2]; · iexact Hp2
    isplitl [Ho]; · iexact Ho
    isplitl [Hod]; · iexact Hod
    isplitl [Hsp]; · iexact Hsp
    iexact Hz
  imod (endD_intro (c := c) m false) $$ [Hd' Hw' Hs' Hp2' Ho' Hod' Hsp' Hz'] with He'
  · isplitr; · iexact HR
    isplitl [Hd']; · iexact Hd'
    isplitl [Hw']; · iexact Hw'
    isplitl [Hs']; · iexact Hs'
    isplitl [Hp2']; · iexact Hp2'
    isplitl [Ho']; · iexact Ho'
    isplitl [Hod']; · iexact Hod'
    isplitl [Hsp']; · iexact Hsp'
    iexact Hz'
  iapply Hk
  isplitl [HO]; · iexact HO
  isplitl [He]; · iexact He
  iexact He'

end Gather

end Cert.KernelIdeal.Ring

end
-- ==== Proof.KernelIdealOut.lean ====
/- The buffers cut into the parts the body works on, and put together again; and the result as one array: which device's
   final sum each half chunk of its rows holds. -/
module

public import proofs.«01_k».proof.Proof.KernelIdealBody

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## A memref and the same memref with an axis of size one dropped -/

theorem squeeze_intro {s s' : Shape} {sp : Space} (c : Dev nD) (M : Memref sig .tc sp s .f32) (hq : s.Squeezes s') (q : PosShare TreeShare) (X : s.Idx → Elt F .f32) :
    (owns (c : Thread nD τ) M q X : sProp 𝕄) ⊢ iprop(∃ Y, owns (c : Thread nD τ) (M.squeeze s' hq) q Y) := by
  iintro H
  ihave H := owns_out M q X $$ H
  icases H with ⟨%g, -, H⟩
  iexists (M.squeeze s' hq).view.read (Elt F) g
  iapply (owns_intro (c : Thread nD τ) (M.squeeze s' hq) q g)
  rw [show (M.squeeze s' hq).view.set = M.view.set from View.set_reshape _ _]
  iexact H

theorem squeeze_elim {s s' : Shape} {sp : Space} (c : Dev nD) (M : Memref sig .tc sp s .f32) (hq : s.Squeezes s') (q : PosShare TreeShare) (Y : s'.Idx → Elt F .f32) :
    (owns (c : Thread nD τ) (M.squeeze s' hq) q Y : sProp 𝕄) ⊢ iprop(∃ X, owns (c : Thread nD τ) M q X) := by
  iintro H
  ihave H := owns_out (M.squeeze s' hq) q Y $$ H
  icases H with ⟨%g, -, H⟩
  iexists M.view.read (Elt F) g
  iapply (owns_intro (c : Thread nD τ) M q g)
  rw [← show (M.squeeze s' hq).view.set = M.view.set from View.set_reshape _ _]
  iexact H

/-! ## A family of rectangles -/

/-- An array cut into a disjoint covering family of rectangles, each at some contents; and back. -/
theorem parts_elim {s : Shape} {sp : Space} {T : Type} [Fintype T] [DecidableEq T] (c : Dev nD) (M : Memref sig .tc sp s .f32) (r : T → Rect s) (hr : ∀ t a, (r t).stride a = 1)
    (hd : ∀ t t', t ≠ t' → Disjoint (r t).set (r t').set) (hcov : (Finset.univ : Finset T).biUnion (fun t => (r t).set) = Finset.univ) (X : s.Idx → Elt F .f32) :
    (owns (c : Thread nD τ) M fullShare X : sProp 𝕄) ⊢ bigSep Finset.univ fun t => iprop(∃ Y, owns (c : Thread nD τ) (M.slice (r t) (hr t)) fullShare Y) :=
  (owns_rects (c : Thread nD τ) M fullShare r hr hd hcov X).trans (bigSep_mono fun t _ => BIClass.exists_intro (Φ := fun Y => owns (c : Thread nD τ) (M.slice (r t) (hr t)) fullShare Y) _)

theorem parts_intro {s : Shape} {sp : Space} {T : Type} [Fintype T] [DecidableEq T] (c : Dev nD) (M : Memref sig .tc sp s .f32) (r : T → Rect s) (hr : ∀ t a, (r t).stride a = 1)
    (hd : ∀ t t', t ≠ t' → Disjoint (r t).set (r t').set) (hcov : (Finset.univ : Finset T).biUnion (fun t => (r t).set) = Finset.univ) (X : s.Idx → Elt F .f32) :
    (bigSep Finset.univ fun t => owns (c : Thread nD τ) (M.slice (r t) (hr t)) fullShare (fun j => X ((r t).emb j)) : sProp 𝕄) ⊢ owns (c : Thread nD τ) M fullShare X :=
  owns_of_rects (c : Thread nD τ) M fullShare r hr hd hcov X

/-- Contents on each of a disjoint family of rectangles are those of one array. -/
theorem glue {s : Shape} {T : Type} (r : T → Rect s) (hd : ∀ t t', t ≠ t' → Disjoint (r t).set (r t').set)
    (Y : (t : T) → (r t).shape.Idx → Elt F .f32) : ∃ X : s.Idx → Elt F .f32, ∀ t, (fun j => X ((r t).emb j)) = Y t := by
  classical
  refine ⟨fun i => if h : ∃ tj : (t : T) × (r t).shape.Idx, (r tj.1).emb tj.2 = i then Y h.choose.1 h.choose.2 else Classical.choice (Elt.nonempty F .f32), fun t => funext fun j => ?_⟩
  have h : ∃ tj : (t : T) × (r t).shape.Idx, (r tj.1).emb tj.2 = (r t).emb j := ⟨⟨t, j⟩, rfl⟩
  have e : h.choose = ⟨t, j⟩ := by
    have hs := h.choose_spec
    generalize h.choose = x at hs
    obtain ⟨t', j'⟩ := x
    have hmem {t : T} (j : (r t).shape.Idx) : (r t).emb j ∈ (r t).set := (r t).map_emb_univ ▸ Finset.mem_map_of_mem _ (Finset.mem_univ j)
    have ht : t' = t := by
      by_contra hne
      exact Finset.disjoint_left.mp (hd t' t hne) (hmem j') (by rw [show (r t').emb j' = (r t).emb j from hs]; exact hmem j)
    subst ht
    exact congrArg (Sigma.mk t') ((r t').emb.injective hs)
  show (if h : _ then _ else _) = _
  rw [dif_pos h, e]

/-- Two slices at some contents make the array they cover. -/
theorem pair_intro {s : Shape} {sp : Space} (c : Dev nD) (M : Memref sig .tc sp s .f32) (r : Fin 2 → Rect s) (hr : ∀ t a, (r t).stride a = 1)
    (hd : ∀ t t', t ≠ t' → Disjoint (r t).set (r t').set) (hcov : (Finset.univ : Finset (Fin 2)).biUnion (fun t => (r t).set) = Finset.univ) :
    iprop((∃ Y, owns (c : Thread nD τ) (M.slice (r 0) (hr 0)) fullShare Y) ∗ (∃ Y, owns (c : Thread nD τ) (M.slice (r 1) (hr 1)) fullShare Y))
      ⊢ (∃ X, owns (c : Thread nD τ) M fullShare X : sProp 𝕄) := by
  have key (Y0 : (r 0).shape.Idx → Elt F .f32) (Y1 : (r 1).shape.Idx → Elt F .f32) :
      iprop(owns (c : Thread nD τ) (M.slice (r 0) (hr 0)) fullShare Y0 ∗ owns (c : Thread nD τ) (M.slice (r 1) (hr 1)) fullShare Y1)
        ⊢ (∃ X, owns (c : Thread nD τ) M fullShare X : sProp 𝕄) := by
    obtain ⟨X, hX⟩ := glue (F := F) r hd (Fin.cons Y0 (Fin.cons Y1 (fun t => t.elim0)))
    have h0 : (fun j => X ((r 0).emb j)) = Y0 := hX 0
    have h1 : (fun j => X ((r 1).emb j)) = Y1 := hX 1
    have e := parts_intro c M r hr hd hcov X
    rw [bigSep_fin_two, h0, h1] at e
    exact BIBase.Entails.trans e (BIClass.exists_intro (Φ := fun X => owns (c : Thread nD τ) M fullShare X) X)
  iintro ⟨⟨%Y0, H0⟩, ⟨%Y1, H1⟩⟩
  iapply (key Y0 Y1)
  isplitl [H0] <;> iassumption

/-! ## The two slots of a buffer -/

theorem rSlot_disjoint : ∀ p p' : Fin 2, p ≠ p' → Disjoint (rSlot p).set (rSlot p').set := fun p p' h =>
  Rect.unit_disjoint 0 (by
    have : p.val ≠ p'.val := fun e => h (Fin.ext e)
    show p.val + 1 ≤ p'.val ∨ p'.val + 1 ≤ p.val
    omega)
theorem rSlot_cover : (Finset.univ : Finset (Fin 2)).biUnion (fun p => (rSlot p).set) = Finset.univ := by
  ext i
  simp only [Finset.mem_biUnion, Finset.mem_univ, true_and, iff_true]
  refine ⟨i 0, Rect.mem_set_unit.mpr fun a => ?_⟩
  fin_cases a
  · exact ⟨le_rfl, Nat.lt_succ_self _⟩
  · exact ⟨Nat.zero_le _, by show (i 1).val < 0 + 256; have := (i 1).isLt; exact (Nat.zero_add 256).symm ▸ this⟩
  · exact ⟨Nat.zero_le _, by show (i 2).val < 0 + 8192; have := (i 2).isLt; exact (Nat.zero_add 8192).symm ▸ this⟩
theorem rWs_disjoint : ∀ p p' : Fin 2, p ≠ p' → Disjoint (rWs p).set (rWs p').set := fun p p' h =>
  Rect.unit_disjoint 0 (by
    have : p.val ≠ p'.val := fun e => h (Fin.ext e)
    show p.val + 1 ≤ p'.val ∨ p'.val + 1 ≤ p.val
    omega)
theorem rWs_cover : (Finset.univ : Finset (Fin 2)).biUnion (fun p => (rWs p).set) = Finset.univ := by
  ext i
  simp only [Finset.mem_biUnion, Finset.mem_univ, true_and, iff_true]
  refine ⟨i 0, Rect.mem_set_unit.mpr fun a => ?_⟩
  fin_cases a
  · exact ⟨le_rfl, Nat.lt_succ_self _⟩
  · exact ⟨Nat.zero_le _, by show (i 1).val < 0 + 512; have := (i 1).isLt; exact (Nat.zero_add 512).symm ▸ this⟩
  · exact ⟨Nat.zero_le _, by show (i 2).val < 0 + 2048; have := (i 2).isLt; exact (Nat.zero_add 2048).symm ▸ this⟩

/-- A direction's buffer is its two slots, at some contents. -/
theorem buf_split (h : Bool) (c : Dev nD) (X : S2x256x8192.Idx → Elt F .f32) :
    (owns (c : Thread nD τ) (bufM h) fullShare X : sProp 𝕄) ⊢ iprop(free h 0 c ∗ free h 1 c) := by
  refine (parts_elim c (bufM h) rSlot (fun _ _ => rfl) rSlot_disjoint rSlot_cover X).trans ?_
  rw [bigSep_fin_two]
  have e (p : Fin 2) : iprop(∃ Y, owns (c : Thread nD τ) ((bufM h).slice (rSlot p) (fun _ => rfl)) fullShare Y) ⊢ (free h p c : sProp 𝕄) := by
    iintro ⟨%Y, H⟩
    iapply (squeeze_intro c ((bufM h).slice (rSlot p) (fun _ => rfl)) squeezes_S1x256x8192_S256x8192 fullShare Y)
    iexact H
  exact BI.sep_mono (e 0) (e 1)
theorem buf_join (h : Bool) (c : Dev nD) : iprop(free h 0 c ∗ free h 1 c) ⊢ (∃ X, owns (c : Thread nD τ) (bufM h) fullShare X : sProp 𝕄) := by
  have e (p : Fin 2) : (free h p c : sProp 𝕄) ⊢ iprop(∃ Y, owns (c : Thread nD τ) ((bufM h).slice (rSlot p) (fun _ => rfl)) fullShare Y) := by
    iintro ⟨%Y, H⟩
    iapply (squeeze_elim c ((bufM h).slice (rSlot p) (fun _ => rfl)) squeezes_S1x256x8192_S256x8192 fullShare Y)
    iexact H
  exact (BI.sep_mono (e 0) (e 1)).trans (pair_intro c (bufM h) rSlot (fun _ _ => rfl) rSlot_disjoint rSlot_cover)

/-- A slot of the staged weights, at some contents. -/
abbrev freeW (p : Fin 2) (c : Dev nD) : sProp 𝕄 := iprop(∃ Y : S512x2048.Idx → Elt F .f32, owns (c : Thread nD τ) (wslotM p) fullShare Y)
theorem ws_split (c : Dev nD) (X : S2x512x2048.Idx → Elt F .f32) :
    (owns (c : Thread nD τ) wsM fullShare X : sProp 𝕄) ⊢ iprop(freeW 0 c ∗ freeW 1 c) := by
  refine (parts_elim c wsM rWs (fun _ _ => rfl) rWs_disjoint rWs_cover X).trans ?_
  rw [bigSep_fin_two]
  have e (p : Fin 2) : iprop(∃ Y, owns (c : Thread nD τ) (wsM.slice (rWs p) (fun _ => rfl)) fullShare Y) ⊢ (freeW p c : sProp 𝕄) := by
    iintro ⟨%Y, H⟩
    iapply (squeeze_intro c (wsM.slice (rWs p) (fun _ => rfl)) squeezes_S1x512x2048_S512x2048 fullShare Y)
    iexact H
  exact BI.sep_mono (e 0) (e 1)
theorem ws_join (c : Dev nD) : iprop(freeW 0 c ∗ freeW 1 c) ⊢ (∃ X, owns (c : Thread nD τ) wsM fullShare X : sProp 𝕄) := by
  have e (p : Fin 2) : (freeW p c : sProp 𝕄) ⊢ iprop(∃ Y, owns (c : Thread nD τ) (wsM.slice (rWs p) (fun _ => rfl)) fullShare Y) := by
    iintro ⟨%Y, H⟩
    iapply (squeeze_elim c (wsM.slice (rWs p) (fun _ => rfl)) squeezes_S1x512x2048_S512x2048 fullShare Y)
    iexact H
  exact (BI.sep_mono (e 0) (e 1)).trans (pair_intro c wsM rWs (fun _ _ => rfl) rWs_disjoint rWs_cover)

/-! ## The rows of the result -/

/-- A device's place on the ring, and the device at a place. -/
def place (c : Dev nD) : Fin 8 := match c.val with | 0 => 0 | 1 => 1 | 2 => 2 | 3 => 3 | 7 => 4 | 6 => 5 | 5 => 6 | _ => 7
/-- The 512-row chunk store `t` of a direction writes a half of. -/
def chunk (h : Bool) (c : Dev nD) (t : Fin 8) : ℕ := match h with
  | true => ((place c).val + 9 - t.val) % 8 | false => ((place c).val + 7 + t.val) % 8
/-- The half a direction writes: the upper to the right, the lower to the left. -/
def half (h : Bool) : ℕ := if h then 0 else 256
/-- The device whose final sum a direction has for a chunk. -/
def devOf (h : Bool) (q : ℕ) : Dev nD := match h with
  | true => (match (q + 7) % 8 with | 0 => 0 | 1 => 1 | 2 => 2 | 3 => 3 | 4 => 7 | 5 => 6 | 6 => 5 | _ => 4)
  | false => (match (q + 1) % 8 with | 0 => 0 | 1 => 1 | 2 => 2 | 3 => 3 | 4 => 7 | 5 => 6 | 6 => 5 | _ => 4)

theorem oOff_eq : ∀ (h : Bool) (c : Dev nD) (t : Fin 8), oOff h c t = ![512 * chunk h c t + half h, 0] := by decide +kernel
theorem devOf_chunk : ∀ (h : Bool) (c : Dev nD) (t : Fin 8), devOf h (chunk h c t) = (peer (!h))^[t.val] c := by decide +kernel
theorem chunk_lt (h : Bool) (c : Dev nD) (t : Fin 8) : chunk h c t < 8 := by cases h <;> exact Nat.mod_lt _ (by decide)
theorem chunk_inj (h : Bool) (c : Dev nD) {t t' : Fin 8} (e : chunk h c t = chunk h c t') : t = t' := by
  apply Fin.ext
  have := t.isLt; have := t'.isLt
  unfold chunk at e
  cases h <;> simp only at e <;> omega
theorem chunk_surj (h : Bool) (c : Dev nD) (q : ℕ) (hq : q < 8) : ∃ t : Fin 8, chunk h c t = q := by
  have hc := (place c).isLt
  cases h
  · refine ⟨⟨(q + 9 - (place c).val) % 8, Nat.mod_lt _ (by decide)⟩, ?_⟩
    show ((place c).val + 7 + (q + 9 - (place c).val) % 8) % 8 = q
    omega
  · refine ⟨⟨((place c).val + 9 - q) % 8, Nat.mod_lt _ (by decide)⟩, ?_⟩
    show ((place c).val + 9 - ((place c).val + 9 - q) % 8) % 8 = q
    omega

/-- The rectangle of rows of a store. -/
abbrev rO (c : Dev nD) (ht : Bool × Fin 8) : Rect S4096x8192 := Rect.unit (s := S4096x8192) (oOff ht.1 c ht.2) S256x8192.size (oOff_inb ht.1 c ht.2)
theorem rO_disjoint (c : Dev nD) : ∀ x y : Bool × Fin 8, x ≠ y → Disjoint (rO c x).set (rO c y).set := fun ⟨h, t⟩ ⟨h', t'⟩ hne =>
  Rect.unit_disjoint 0 (by
    show oOff h c t 0 + 256 ≤ oOff h' c t' 0 ∨ oOff h' c t' 0 + 256 ≤ oOff h c t 0
    rw [oOff_eq, oOff_eq]
    show 512 * chunk h c t + half h + 256 ≤ 512 * chunk h' c t' + half h' ∨ 512 * chunk h' c t' + half h' + 256 ≤ 512 * chunk h c t + half h
    by_cases hh : h = h'
    · subst hh
      have : chunk h c t ≠ chunk h c t' := fun e => hne (by rw [chunk_inj h c e])
      omega
    · cases h <;> cases h' <;> first | exact absurd rfl hh | (show 512 * _ + 256 + 256 ≤ 512 * _ + 0 ∨ 512 * _ + 0 + 256 ≤ 512 * _ + 256; omega) | (show 512 * _ + 0 + 256 ≤ 512 * _ + 256 ∨ 512 * _ + 256 + 256 ≤ 512 * _ + 0; omega))
theorem rO_cover (c : Dev nD) : (Finset.univ : Finset (Bool × Fin 8)).biUnion (fun x => (rO c x).set) = Finset.univ := by
  ext i
  simp only [Finset.mem_biUnion, Finset.mem_univ, true_and, iff_true]
  have h0 : (i 0).val < 4096 := (i 0).isLt
  have h1 : (i 1).val < 8192 := (i 1).isLt
  have key (h : Bool) (hlo : 512 * ((i 0).val / 512) + half h ≤ (i 0).val) (hhi : (i 0).val < 512 * ((i 0).val / 512) + half h + 256) : ∃ x, i ∈ (rO c x).set := by
    obtain ⟨t, ht⟩ := chunk_surj h c ((i 0).val / 512) (by omega)
    refine ⟨(h, t), Rect.mem_set_unit.mpr fun a => ?_⟩
    show oOff h c t a ≤ _ ∧ _ < oOff h c t a + _
    rw [oOff_eq, ht]
    fin_cases a
    · exact ⟨hlo, hhi⟩
    · exact ⟨Nat.zero_le _, by show (i 1).val < 0 + 8192; omega⟩
  by_cases hlt : (i 0).val % 512 < 256
  · exact key true (by show _ + 0 ≤ _; omega) (by show _ < _ + 0 + 256; omega)
  · exact key false (by show _ + 256 ≤ _; omega) (by show _ < _ + 256 + 256; omega)

/-- The direction of a row of the result, and the row within its half chunk. -/
def dirOf (i : S4096x8192.Idx) : Bool := decide ((i 0).val % 512 < 256)
def inHalf (i : S4096x8192.Idx) : S256x8192.Idx := fun
  | ⟨0, _⟩ => ⟨(i 0).val % 256, Nat.mod_lt _ (by decide)⟩
  | ⟨1, _⟩ => ⟨(i 1).val, (i 1).isLt⟩
/-- The result: in each half chunk the activated final sum of the device that ends with it. -/
def outV : S4096x8192.Idx → Elt F .f32 := fun i => gelu (acc m (dirOf i) 7 (devOf (dirOf i) ((i 0).val / 512))) (inHalf i)

theorem val_end (h : Bool) (t : Fin 8) (c : Dev nD) : val m h (t.val + 7) c = gelu (acc m h 7 ((peer (!h))^[t.val] c)) := by
  unfold val
  rw [if_neg (by omega), Nat.add_sub_cancel]

/-- A store's rows of the result are what the device sent there. -/
theorem outV_rows (h : Bool) (c : Dev nD) (t : Fin 8) : (fun j => outV m ((rO c (h, t)).emb j)) = val m h (t.val + 7) c := by
  funext j
  have e0 : ((rO c (h, t)).emb j 0).val = 512 * chunk h c t + half h + (j 0).val := by
    show oOff h c t 0 + 1 * (j 0).val = _
    rw [oOff_eq, Nat.one_mul]; rfl
  have e1 : ((rO c (h, t)).emb j 1).val = (j 1).val := by
    show oOff h c t 1 + 1 * (j 1).val = _
    rw [oOff_eq, Nat.one_mul]; exact Nat.zero_add _
  have hj : (j 0).val < 256 := (j 0).isLt
  have hd : dirOf ((rO c (h, t)).emb j) = h := by
    unfold dirOf; rw [e0]
    cases h
    · exact decide_eq_false (by show ¬ (_ + 256 + _) % 512 < 256; omega)
    · exact decide_eq_true (by show (_ + 0 + _) % 512 < 256; omega)
  have hq : ((rO c (h, t)).emb j 0).val / 512 = chunk h c t := by
    rw [e0]; cases h
    · show (_ + 256 + _) / 512 = _; omega
    · show (_ + 0 + _) / 512 = _; omega
  have hi : inHalf ((rO c (h, t)).emb j) = j := by
    refine Shape.idx_ext₂ ?_ ?_
    · show ((rO c (h, t)).emb j 0).val % 256 = (j 0).val
      rw [e0]; cases h
      · show (_ + 256 + _) % 256 = _; omega
      · show (_ + 0 + _) % 256 = _; omega
    · exact e1
  unfold outV
  rw [hd, hq, hi, devOf_chunk, val_end]

theorem bigSep_bool (Φ : Bool → sProp 𝕄) : bigSep Finset.univ Φ = iprop(Φ true ∗ Φ false) :=
  bigSep_univ_eq_bigSepL [true, false] (by decide) (by decide) Φ
theorem bigSep_eight (Φ : ℕ → sProp 𝕄) : (bigSep Finset.univ fun t : Fin 8 => Φ t.val) = bigSep (Finset.range 8) Φ := by
  rw [show Finset.range 8 = (Finset.univ : Finset (Fin 8)).map Fin.valEmbedding by decide, bigSep_map]; rfl

/-- The result at some contents is both directions' rows still to store; -/
theorem out_split (c : Dev nD) (X : S4096x8192.Idx → Elt F .f32) :
    (owns (c : Thread nD τ) oM fullShare X : sProp 𝕄) ⊢ iprop(outRest true c 0 ∗ outRest false c 0) := by
  refine (parts_elim c oM (rO c) (fun _ _ => rfl) (rO_disjoint c) (rO_cover c) X).trans ?_
  rw [bigSep_univ_prod, bigSep_bool]
  have e (h : Bool) : (bigSep Finset.univ fun t : Fin 8 => iprop(∃ Y, owns (c : Thread nD τ) (oM.slice (rO c (h, t)) (fun _ => rfl)) fullShare Y) : sProp 𝕄) ⊢ outRest h c 0 := by
    unfold outRest
    rw [← Finset.range_eq_Ico, ← bigSep_eight]
    exact Entails.of_eq (bigSep_congr fun t _ => by rw [f8_val]; rfl)
  exact BI.sep_mono (e true) (e false)
/-- and both directions' rows stored are the result. -/
theorem out_join (c : Dev nD) : iprop(outDone m true c 8 ∗ outDone m false c 8) ⊢ (owns (c : Thread nD τ) oM fullShare (outV m) : sProp 𝕄) := by
  refine BIBase.Entails.trans ?_ (parts_intro c oM (rO c) (fun _ _ => rfl) (rO_disjoint c) (rO_cover c) (outV m))
  rw [bigSep_univ_prod, bigSep_bool]
  have e (h : Bool) : outDone m h c 8 ⊢ (bigSep Finset.univ fun t : Fin 8 => owns (c : Thread nD τ) (oM.slice (rO c (h, t)) (fun _ => rfl)) fullShare (fun j => outV m ((rO c (h, t)).emb j)) : sProp 𝕄) := by
    unfold outDone
    rw [← bigSep_eight]
    exact Entails.of_eq (bigSep_congr fun t _ => by rw [f8_val, outV_rows])
  exact BI.sep_mono (e true) (e false)

end Cert.KernelIdeal.Ring

end
-- ==== Proof.KernelIdealGhost.lean ====
/- The start of the protocol: the semaphores' schedules put in force, the rights to signal dealt to the devices that
   signal, and the launch's credit dealt to the devices that wait. -/
module

public import proofs.«01_k».proof.Proof.KernelIdealOut
public import proofs.«01_k».proof.Proof.Gen.KernelIdeal.Launch

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## The semaphores -/

/-- The semaphores the kernel allocates: the protocol's, and those of the local copies. -/
abbrev LIx : Type := Bool ⊕ Fin 2 ⊕ Bool
abbrev KIx : Type := (Bool ⊕ (Bool × Fin 14) ⊕ (Bool × Fin 14)) ⊕ LIx
abbrev locSem : LIx → SemLoc sig
  | .inl h => .dma (xS h)
  | .inr (.inl p) => .dma (wS p)
  | .inr (.inr h) => .dma (stS h)
abbrev osem : KIx → SemLoc sig
  | .inl (.inl h) => semOf (.inl (.inr h))
  | .inl (.inr x) => semOf (.inr x)
  | .inr l => locSem l

theorem ownSemFacts : Pipeline.OwnSemFacts cfg0.spec osem := by decide +kernel

/-- The local copies' semaphores at rest. -/
def locS (c : Dev nD) : sProp 𝕄 := bigSep Finset.univ fun l : LIx => semVal ((c : Thread nD τ), locSem l) 0

theorem locS_eq (c : Dev nD) : (locS c : sProp 𝕄) = iprop((semVal ((c : Thread nD τ), .dma (xS true)) 0 ∗ semVal ((c : Thread nD τ), .dma (xS false)) 0)
    ∗ (semVal ((c : Thread nD τ), .dma (wS 0)) 0 ∗ semVal ((c : Thread nD τ), .dma (wS 1)) 0)
    ∗ (semVal ((c : Thread nD τ), .dma (stS true)) 0 ∗ semVal ((c : Thread nD τ), .dma (stS false)) 0)) := by
  unfold locS
  rw [bigSep_univ_sum, bigSep_univ_sum, bigSep_bool, bigSep_bool, bigSep_fin_two]
  rfl

theorem unscopedSems0_eq (c : Dev nD) : (unscopedSems0 c : sProp 𝕄) = semVal (barC c) 0 := by
  unfold unscopedSems0; rw [bigSep_eq_bigSepL_of_eq [SemLoc.reg barS] (by decide +kernel) (by decide +kernel)]; rfl

/-- A family over the protocol's semaphores, by what they are for. -/
theorem bigSep_CIx (Φ : CIx → sProp 𝕄) : bigSep Finset.univ Φ
    = iprop((Φ (.inl (.inl ())) ∗ bigSep Finset.univ fun h => Φ (.inl (.inr h)))
        ∗ (bigSep Finset.univ fun h => bigSep Finset.univ fun k => Φ (.inr (.inl (h, k))))
        ∗ bigSep Finset.univ fun h => bigSep Finset.univ fun k => Φ (.inr (.inr (h, k)))) := by
  rw [bigSep_univ_sum, bigSep_univ_sum, bigSep_univ_sum, bigSep_univ_prod, bigSep_univ_prod, bigSep_univ_eq_bigSepL [()] (by decide) (by decide), bigSepL_singleton]
  rfl

theorem ownSems0_eq (c : Dev nD) : (Pipeline.ownSems0 osem c : sProp 𝕄)
    = iprop(((bigSep Finset.univ fun h => semVal (ackC h c) 0) ∗ (bigSep Finset.univ fun h => bigSep Finset.univ fun k => semVal (sendC h k c) 0)
        ∗ (bigSep Finset.univ fun h => bigSep Finset.univ fun k => semVal (recvC h k c) 0)) ∗ locS c) := by
  unfold Pipeline.ownSems0 locS
  rw [bigSep_univ_sum, bigSep_univ_sum, bigSep_univ_sum, bigSep_univ_prod, bigSep_univ_prod]
  rfl

/-- The free semaphores are the protocol's and the local copies'. -/
theorem sems_split (c : Dev nD) :
    iprop(Pipeline.ownSems0 osem c ∗ unscopedSems0 c) ⊢ (iprop((bigSep Finset.univ fun i : CIx => semVal (cellAt (c, i)) 0) ∗ locS c) : sProp 𝕄) := by
  rw [ownSems0_eq, unscopedSems0_eq, bigSep_CIx]
  iintro ⟨⟨⟨Ha, Hs, Hr⟩, Hl⟩, Hb⟩
  isplitr [Hl]
  · isplitl [Ha Hb]
    · isplitl [Hb]; · iexact Hb
      iexact Ha
    isplitl [Hs]; · iexact Hs
    iexact Hr
  · iexact Hl

/-! ## The cells and the rights to signal -/

/-- What the kind of a semaphore of the protocol is. -/
abbrev kindOf : CIx → Kind
  | .inl (.inl _) => .bar
  | .inl (.inr h) => .ack h
  | .inr (.inl (h, k)) => .send h k
  | .inr (.inr (h, k)) => .recv h k
theorem kind_semOf (i : CIx) : kind (semOf i) = kindOf i := by
  rcases i with (_ | h) | ⟨h, k⟩ | ⟨h, k⟩
  · exact kind_bar
  · exact kind_ack h
  · exact kind_send h k
  · exact kind_recv h k
theorem kindOf_injective : Function.Injective kindOf := by
  rintro ((_ | h) | ⟨h, k⟩ | ⟨h, k⟩) ((_ | h') | ⟨h', k'⟩ | ⟨h', k'⟩) e <;> cases e <;> rfl

theorem cellAt_injective : Function.Injective (cellAt : Dev nD × CIx → GSem nD τ sig) := by
  rintro ⟨c, i⟩ ⟨c', i'⟩ e
  have h1 : c = c' := congrArg (fun g : GSem nD τ sig => g.1.1) e
  have h2 : i = i' := kindOf_injective (by rw [← kind_semOf, ← kind_semOf]; exact congrArg (fun g : GSem nD τ sig => kind g.2) e)
  rw [h1, h2]
def ringCells : Finset (GSem nD τ sig) := Finset.univ.map ⟨cellAt, cellAt_injective⟩

/-- The signals each semaphore takes: the barrier two, an acknowledgement semaphore thirteen, a transfer's one. -/
abbrev TIx : Type := (Bool ⊕ (Bool × Fin 13)) ⊕ (Bool × Fin 14) ⊕ (Bool × Fin 14)
abbrev tokIx : TIx → CIx × ℕ × Bool
  | .inl (.inl b) => (.inl (.inl ()), 0, b)
  | .inl (.inr (h, r)) => (.inl (.inr h), r.val, false)
  | .inr x => (.inr x, 0, false)
theorem tokIx_injective : Function.Injective tokIx := by
  rintro ((b | ⟨h, r⟩) | x) ((b' | ⟨h', r'⟩) | x') e
  · have := congrArg (fun y : CIx × ℕ × Bool => y.2.2) e; rw [show b = b' from this]
  · exact absurd (congrArg Prod.fst e) (by intro h; cases h)
  · exact absurd (congrArg Prod.fst e) (by intro h; cases h)
  · exact absurd (congrArg Prod.fst e) (by intro h; cases h)
  · have e1 : h = h' := Sum.inr.inj (Sum.inl.inj (congrArg Prod.fst e))
    have e2 : r = r' := Fin.ext (congrArg (fun y : CIx × ℕ × Bool => y.2.1) e)
    rw [e1, e2]
  · exact absurd (congrArg Prod.fst e) (by intro h; cases h)
  · exact absurd (congrArg Prod.fst e) (by intro h; cases h)
  · exact absurd (congrArg Prod.fst e) (by intro h; cases h)
  · rw [show x = x' from Sum.inr.inj (congrArg Prod.fst e)]
abbrev tokOf (p : Dev nD × TIx) : GSem nD τ sig × ℕ × Bool := (cellAt (p.1, (tokIx p.2).1), (tokIx p.2).2)
theorem tokOf_injective : Function.Injective (tokOf : Dev nD × TIx → GSem nD τ sig × ℕ × Bool) := by
  rintro ⟨c, j⟩ ⟨c', j'⟩ e
  have h1 := cellAt_injective (congrArg Prod.fst e)
  have h3 : (tokIx j).2 = (tokIx j').2 := congrArg (fun x : GSem nD τ sig × ℕ × Bool => x.2) e
  have h2 : j = j' := tokIx_injective (Prod.ext (congrArg Prod.snd h1) h3)
  rw [show c = c' from congrArg Prod.fst h1, h2]
def ringToks : Finset (GSem nD τ sig × ℕ × Bool) := Finset.univ.map ⟨tokOf, tokOf_injective⟩

/-- The ghost state at the launch. -/
def u₀ : UU := (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- A device's position on each of its semaphores. -/
def posns (c : Dev nD) : sProp 𝕄 := bigSep Finset.univ fun i : CIx => atPos ER (cellAt (c, i)) 0 ∅ 0
/-- The signals a device's own semaphores take; -/
def toks (c : Dev nD) : sProp 𝕄 := bigSep Finset.univ fun j : TIx => dutyTok ER (tokOf (c, j)).1 (tokOf (c, j)).2.1 (tokOf (c, j)).2.2
/-- and the signals a device gives. -/
def pays (c : Dev nD) : sProp 𝕄 :=
  iprop(((bigSep Finset.univ fun b => dutyTok ER (barC (peer (!b) c)) 0 b)
      ∗ bigSep Finset.univ fun h => bigSep Finset.univ fun r : Fin 13 => dutyTok ER (ackC h (peer (!h) c)) r.val false)
    ∗ (bigSep Finset.univ fun h => bigSep Finset.univ fun k : Fin 14 => dutyTok ER (sendC h k c) 0 false)
    ∗ bigSep Finset.univ fun h => bigSep Finset.univ fun k : Fin 14 => dutyTok ER (recvC h k (peer h c)) 0 false)

/-- What the launch deals device `c`. -/
def G (c : Dev nD) : sProp 𝕄 :=
  iprop((bigSep Finset.univ fun i : CIx => roundState ER (ringRd m) (cellAt (c, i)) 0)
    ∗ posns c ∗ (bigSep Finset.univ fun i : CIx => reached ER (cellAt (c, i)) 0) ∗ toks c)

/-- What it starts with, once every schedule is in force. -/
def G' (c : Dev nD) : sProp 𝕄 := iprop(recs m ∗ locS c ∗ posns c ∗ pays c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (cellAt (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  have hG : bigSep Finset.univ (G m) = (iprop((bigSep Finset.univ fun c : Dev nD => bigSep Finset.univ fun i : CIx => roundState ER (ringRd m) (cellAt (c, i)) 0)
      ∗ (bigSep Finset.univ fun c : Dev nD => posns c) ∗ (bigSep Finset.univ fun c : Dev nD => bigSep Finset.univ fun i : CIx => reached ER (cellAt (c, i)) 0)
      ∗ bigSep Finset.univ fun c : Dev nD => toks c) : sProp 𝕄) := by
    unfold G; rw [bigSep_sep', bigSep_sep', bigSep_sep']
  rw [hG]
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  isplitl [Hst']; · iexact Hst'
  isplitl [Hat']; · iexact Hat'
  isplitl [Hr']; · iexact Hr'
  iexact Htok'

theorem known_intro (g : GSem nD τ sig) : iprop((∃ κ : ℕ, cellInv ER (ringRd m) κ g) ∗ reached ER g 0) ⊢ (known m g : sProp 𝕄) := by
  unfold known
  iintro ⟨⟨%κ, Hi⟩, Hr⟩
  iexists κ
  isplitl [Hi] <;> iassumption

/-- A device's schedules put in force. -/
theorem core_alloc (c : Dev nD) :
    iprop(Pipeline.ownSems0 osem c ∗ unscopedSems0 c ∗ G m c)
      ⊢ (|={Set.univ}=> iprop((bigSep Finset.univ fun i : CIx => known m (cellAt (c, i))) ∗ locS c ∗ posns c ∗ toks c) : sProp 𝕄) := by
  unfold G
  iintro ⟨Hos, Hus, Hst, Hat, Hr, Htok⟩
  ihave Hv := (sems_split (F := F) c) $$ [Hos Hus]
  · isplitl [Hos] <;> iassumption
  icases Hv with ⟨Hv, Hl⟩
  imod (show iprop((bigSep Finset.univ fun i : CIx => semVal (cellAt (c, i)) 0) ∗ bigSep Finset.univ fun i : CIx => roundState ER (ringRd m) (cellAt (c, i)) 0)
      ⊢ (|={Set.univ}=> bigSep Finset.univ fun i : CIx => iprop(∃ κ : ℕ, cellInv ER (ringRd m) κ (cellAt (c, i))) : sProp 𝕄) from by
        rw [← bigSep_sep']
        exact (bigSep_mono fun i _ => (Rounds.body_intro ER (ringRd m) (cellAt (c, i))).trans inv_alloc).trans (bigSep_fupd _ _)) $$ [Hv Hst] with Hinv
  · isplitl [Hv] <;> iassumption
  imodintro
  isplitl [Hinv Hr]
  · iapply (show iprop((bigSep Finset.univ fun i : CIx => iprop(∃ κ : ℕ, cellInv ER (ringRd m) κ (cellAt (c, i)))) ∗ bigSep Finset.univ fun i : CIx => reached ER (cellAt (c, i)) 0)
      ⊢ (bigSep Finset.univ fun i : CIx => known m (cellAt (c, i)) : sProp 𝕄) from by
        rw [← bigSep_sep']; exact bigSep_mono fun i _ => known_intro m _)
    isplitl [Hinv] <;> iassumption
  isplitl [Hl]; · iexact Hl
  isplitl [Hat]; · iexact Hat
  iexact Htok

/-- A family over the devices and the directions, each direction's moved along the ring. -/
theorem around (A : Dev nD → Bool → sProp 𝕄) (e : Bool → Dev nD ≃ Dev nD) :
    (bigSep Finset.univ fun c => bigSep Finset.univ fun h => A c h) = bigSep Finset.univ fun c => bigSep Finset.univ fun h => A (e h c) h := by
  simp only [bigSep_bool]
  rw [bigSep_sep', bigSep_sep', bigSep_univ_equiv (e true) fun c => A c true, bigSep_univ_equiv (e false) fun c => A c false]

theorem toks_eq (c : Dev nD) : (toks c : sProp 𝕄)
    = iprop(((bigSep Finset.univ fun b => dutyTok ER (barC c) 0 b)
      ∗ bigSep Finset.univ fun h => bigSep Finset.univ fun r : Fin 13 => dutyTok ER (ackC h c) r.val false)
    ∗ (bigSep Finset.univ fun h => bigSep Finset.univ fun k : Fin 14 => dutyTok ER (sendC h k c) 0 false)
    ∗ bigSep Finset.univ fun h => bigSep Finset.univ fun k : Fin 14 => dutyTok ER (recvC h k c) 0 false) := by
  unfold toks
  rw [bigSep_univ_sum, bigSep_univ_sum, bigSep_univ_sum, bigSep_univ_prod, bigSep_univ_prod, bigSep_univ_prod]
  rfl

/-- The rights to signal, dealt to the devices that signal. -/
theorem toks_around : (bigSep Finset.univ fun c : Dev nD => (toks c : sProp 𝕄)) = bigSep Finset.univ fun c : Dev nD => pays c := by
  rw [bigSep_congr (s := Finset.univ) fun (c : Dev nD) _ => toks_eq (F := F) c]
  unfold pays
  rw [bigSep_sep', bigSep_sep', bigSep_sep', bigSep_sep', bigSep_sep', bigSep_sep']
  rw [around (fun c b => (dutyTok ER (barC c) 0 b : sProp 𝕄)) fun b => ring (!b),
    around (fun c h => (bigSep Finset.univ fun r : Fin 13 => dutyTok ER (ackC h c) r.val false : sProp 𝕄)) fun h => ring (!h),
    around (fun c h => (bigSep Finset.univ fun k : Fin 14 => dutyTok ER (recvC h k c) 0 false : sProp 𝕄)) fun h => ring h]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c => iprop((bigSep Finset.univ fun i : CIx => known m (cellAt (c, i))) ∗ locS c ∗ posns c ∗ toks c) : sProp 𝕄)
    ⊢ bigSep Finset.univ (G' m) := by
  rw [bigSep_sep', bigSep_sep', bigSep_sep', toks_around, ← bigSep_univ_prod (fun p : Dev nD × CIx => known m (cellAt p)), ← bigSep_sep', ← bigSep_sep']
  exact with_persistent (R := recs m) fun c _ => .rfl

/-- Every device's semaphores at once, to what each device starts with. -/
theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem bigSep_Ico_zero {n : ℕ} (Φ : ℕ → sProp 𝕄) : (bigSep Finset.univ fun t : Fin n => Φ t.val) = bigSep (Finset.Ico 0 n) Φ := by
  rw [← Finset.range_eq_Ico, ← Nat.Iio_eq_range, ← Fin.map_valEmbedding_univ, bigSep_map]; rfl

theorem creds_recv (h : Bool) (c : Dev nD) : (Pipeline.launchCred (fun d => owR h d 0) c : sProp 𝕄) ⊢ bigSep (Finset.Ico 0 14) fun k => cred (tallyAt (recvC h (f14 k) c) 0 N) := by
  unfold owR
  rw [Pipeline.launchCred_sum]
  exact bigSep_mono fun k _ => Pipeline.launchCred_tallyAt (.dma (recvS h (f14 k))) (peer h) (peer (!h)) (peer_forth h) (peer_back h) 0 N c
theorem creds_ack (h : Bool) (c : Dev nD) : (Pipeline.launchCred (fun d => owA h d 0) c : sProp 𝕄) ⊢ bigSep (Finset.Ico 0 13) fun r => cred (tallyAt (ackC h c) r 1) := by
  unfold owA
  rw [Pipeline.launchCred_sum]
  exact bigSep_mono fun r _ => Pipeline.launchCred_tallyAt (.reg (ackS h)) (peer (!h)) (peer h) (peer_back h) (peer_forth h) r 1 c
theorem creds_bar (h : Bool) (c : Dev nD) : (Pipeline.launchCred (fun d => tallyAt (barC (peer h d)) 0 1) c : sProp 𝕄) ⊢ cred (tallyAt (barC c) 0 1) :=
  Pipeline.launchCred_tallyAt (.reg barS) (peer h) (peer (!h)) (peer_forth h) (peer_back h) 0 1 c

/-- The credit a direction starts with. -/
def credD (h : Bool) (c : Dev nD) : sProp 𝕄 :=
  iprop((bigSep (Finset.Ico 0 14) fun k => cred (tallyAt (recvC h (f14 k) c) 0 N)) ∗ bigSep (Finset.Ico 0 13) fun r => cred (tallyAt (ackC h c) r 1))

theorem creds (c : Dev nD) : (Pipeline.launchCred O₀ c : sProp 𝕄) ⊢ iprop(cred (tallyAt (barC c) 0 2) ∗ credD true c ∗ credD false c) := by
  have e : (Pipeline.launchCred O₀ c : sProp 𝕄) = iprop(((((Pipeline.launchCred (fun d => owR true d 0) c ∗ Pipeline.launchCred (fun d => owR false d 0) c)
      ∗ Pipeline.launchCred (fun d => owA true d 0) c) ∗ Pipeline.launchCred (fun d => owA false d 0) c)
      ∗ Pipeline.launchCred (fun d => tallyAt (barC (peer true d)) 0 1) c) ∗ Pipeline.launchCred (fun d => tallyAt (barC (peer false d)) 0 1) c) := by
    rw [← Pipeline.launchCred_add, ← Pipeline.launchCred_add, ← Pipeline.launchCred_add, ← Pipeline.launchCred_add, ← Pipeline.launchCred_add]
    rfl
  rw [e, show (2 : ℕ) = 1 + 1 from rfl, ← tallyAt_add]
  unfold credD
  iintro ⟨⟨⟨⟨⟨H1, H2⟩, H3⟩, H4⟩, H5⟩, H6⟩
  ihave H1 := creds_recv (F := F) true c $$ H1
  ihave H2 := creds_recv (F := F) false c $$ H2
  ihave H3 := creds_ack (F := F) true c $$ H3
  ihave H4 := creds_ack (F := F) false c $$ H4
  ihave H5 := creds_bar (F := F) true c $$ H5
  ihave H6 := creds_bar (F := F) false c $$ H6
  isplitl [H5 H6]
  · iapply (cred_add _ _).2
    isplitl [H5] <;> iassumption
  isplitl [H1 H3]
  · isplitl [H1] <;> iassumption
  isplitl [H2] <;> iassumption

/-! ## What each device starts the body with -/

/-- A direction's share of the protocol at the start. -/
def protoD (h : Bool) (c : Dev nD) : sProp 𝕄 := iprop(xfers h c 0 ∗ ackG h c 0 ∗ ackW h c 0)

theorem xfers_intro (h : Bool) (c : Dev nD) :
    iprop((bigSep Finset.univ fun k : Fin 14 => dutyTok ER (sendC h k c) 0 false) ∗ (bigSep Finset.univ fun k : Fin 14 => dutyTok ER (recvC h k (peer h c)) 0 false)
      ∗ (bigSep Finset.univ fun k : Fin 14 => atPos ER (sendC h k c) 0 ∅ 0) ∗ (bigSep Finset.univ fun k : Fin 14 => atPos ER (recvC h k c) 0 ∅ 0)
      ∗ bigSep (Finset.Ico 0 14) fun k => cred (tallyAt (recvC h (f14 k) c) 0 N)) ⊢ (xfers h c 0 : sProp 𝕄) := by
  unfold xfers
  rw [← bigSep_Ico_zero, ← bigSep_Ico_zero, ← bigSep_sep', ← bigSep_sep', ← bigSep_sep', ← bigSep_sep']
  exact Entails.of_eq (bigSep_congr fun k _ => by unfold xf; rw [f14_val])

theorem ackG_intro (h : Bool) (c : Dev nD) : (bigSep Finset.univ fun r : Fin 13 => dutyTok ER (ackC h (peer (!h) c)) r.val false) ⊢ (ackG h c 0 : sProp 𝕄) := by
  unfold ackG
  rw [← bigSep_Ico_zero]

theorem proto_intro (c : Dev nD) :
    iprop(recs m ∗ posns c ∗ pays c ∗ Pipeline.launchCred O₀ c) ⊢ (iprop(barO c ∗ protoD true c ∗ protoD false c) : sProp 𝕄) := by
  unfold posns pays
  rw [bigSep_CIx]
  simp only [bigSep_bool]
  unfold barO protoD ackW
  iintro ⟨#HR, ⟨⟨Hpb, Hpa, Hpa'⟩, ⟨Hps, Hps'⟩, Hpr, Hpr'⟩, ⟨⟨⟨Htb, Htb'⟩, Hta, Hta'⟩, ⟨Hts, Hts'⟩, Htr, Htr'⟩, Hc⟩
  ihave Hc := creds (F := F) c $$ Hc
  unfold credD
  icases Hc with ⟨Hcb, ⟨Hcr, Hca⟩, Hcr', Hca'⟩
  ihave Hx := xfers_intro true c $$ [Hts Htr Hps Hpr Hcr]
  · isplitl [Hts]; · iexact Hts
    isplitl [Htr]; · iexact Htr
    isplitl [Hps]; · iexact Hps
    isplitl [Hpr]; · iexact Hpr
    iexact Hcr
  ihave Hx' := xfers_intro false c $$ [Hts' Htr' Hps' Hpr' Hcr']
  · isplitl [Hts']; · iexact Hts'
    isplitl [Htr']; · iexact Htr'
    isplitl [Hps']; · iexact Hps'
    isplitl [Hpr']; · iexact Hpr'
    iexact Hcr'
  ihave Hg := ackG_intro true c $$ Hta
  ihave Hg' := ackG_intro false c $$ Hta'
  ihave H1 := recs_ack m true c $$ HR
  icases H1 with ⟨%κ₁, -, #Hr⟩
  ihave H2 := recs_ack m false c $$ HR
  icases H2 with ⟨%κ₂, -, #Hr'⟩
  isplitl [Htb Htb' Hcb Hpb]
  · isplitl [Htb]; · iexact Htb
    isplitl [Htb']; · iexact Htb'
    isplitl [Hcb]; · iexact Hcb
    iexact Hpb
  isplitl [Hx Hg Hpa Hca]
  · isplitl [Hx]; · iexact Hx
    isplitl [Hg]; · iexact Hg
    isplitl [Hpa]; · iexact Hpa
    isplitr; · iexact Hr
    iexact Hca
  · isplitl [Hx']; · iexact Hx'
    isplitl [Hg']; · iexact Hg'
    isplitl [Hpa']; · iexact Hpa'
    isplitr; · iexact Hr'
    iexact Hca'

end Cert.KernelIdeal.Ring

end
-- ==== Proof.KernelIdealLaunch.lean ====
/- The run of the kernel on the eight devices: what the body starts from and ends with, its obligation, and the launch.
   Every device ends with the result array at the same contents, its arguments unchanged and every semaphore at rest. -/
module

public import proofs.«01_k».proof.Proof.KernelIdealGhost
public import Idealize.ShloMosaic.Lib.Pipeline.CollectiveSegs

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## What the body starts from and ends with -/

/-- A direction's buffers, at any contents. -/
def bufs (h : Bool) (c : Dev nD) : sProp 𝕄 :=
  iprop(free h 0 c ∗ free h 1 c ∗ (∃ Y, owns (c : Thread nD τ) (locM h) fullShare Y) ∗ ∃ Y, owns (c : Thread nD τ) (xrM h) fullShare Y)
/-- The device's buffers, at any contents. -/
def scr (c : Dev nD) : sProp 𝕄 := iprop(bufs true c ∗ bufs false c ∗ freeW 0 c ∗ freeW 1 c)

theorem whole_elim (c : Dev nD) (b : Ref sig .tc) (f : b.ty.Contents (Elt F)) :
    ((c : Thread nD τ).loc b ↦{fullShare} f : sProp 𝕄) ⊢ owns (c : Thread nD τ) (Memref.whole b) fullShare f := Entails.of_eq (owns_whole (c : Thread nD τ) b fullShare f).symm
theorem whole_intro (c : Dev nD) (b : Ref sig .tc) (f : b.ty.Contents (Elt F)) :
    owns (c : Thread nD τ) (Memref.whole b) fullShare f ⊢ ((c : Thread nD τ).loc b ↦{fullShare} f : sProp 𝕄) := Entails.of_eq (owns_whole (c : Thread nD τ) b fullShare f)
theorem any_elim (c : Dev nD) (b : Ref sig .tc) :
    iprop(∃ f : Buf (Elt F) ((c : Thread nD τ).loc b), (c : Thread nD τ).loc b ↦{fullShare} f) ⊢ (iprop(∃ Y, owns (c : Thread nD τ) (Memref.whole b) fullShare Y) : sProp 𝕄) := by
  iintro ⟨%f, H⟩
  iexists f
  iapply (whole_elim c b f); iexact H
theorem any_intro (c : Dev nD) (b : Ref sig .tc) :
    (iprop(∃ Y, owns (c : Thread nD τ) (Memref.whole b) fullShare Y) : sProp 𝕄) ⊢ iprop(∃ f : Buf (Elt F) ((c : Thread nD τ).loc b), (c : Thread nD τ).loc b ↦{fullShare} f) := by
  iintro ⟨%f, H⟩
  iexists f
  iapply (whole_intro c b f); iexact H

theorem slots_elim (h : Bool) (c : Dev nD) : iprop(∃ X, owns (c : Thread nD τ) (bufM h) fullShare X) ⊢ (iprop(free h 0 c ∗ free h 1 c) : sProp 𝕄) := by
  iintro ⟨%X, H⟩
  iapply (buf_split h c X); iexact H
theorem wslots_elim (c : Dev nD) : iprop(∃ X, owns (c : Thread nD τ) wsM fullShare X) ⊢ (iprop(freeW 0 c ∗ freeW 1 c) : sProp 𝕄) := by
  iintro ⟨%X, H⟩
  iapply (ws_split c X); iexact H

theorem scr_intro (c : Dev nD) : (Pipeline.scopedRest cfg0.spec c : sProp 𝕄) ⊢ scr c := by
  rw [scopedRest0_eq]
  unfold scr bufs
  iintro ⟨H0, H1, H2, H3, H4, H5, H6⟩
  ihave H0 := any_elim c cc0_scratch0 $$ H0
  ihave H1 := any_elim c cc0_scratch1 $$ H1
  ihave H2 := any_elim c cc0_scratch2 $$ H2
  ihave H3 := any_elim c cc0_scratch3 $$ H3
  ihave H4 := any_elim c cc0_scratch4 $$ H4
  ihave H5 := any_elim c cc0_scratch5 $$ H5
  ihave H6 := any_elim c cc0_scratch6 $$ H6
  ihave H0 := slots_elim true c $$ H0
  ihave H1 := slots_elim false c $$ H1
  ihave H6 := wslots_elim c $$ H6
  icases H0 with ⟨H0, H0'⟩
  icases H1 with ⟨H1, H1'⟩
  icases H6 with ⟨H6, H6'⟩
  isplitl [H0 H0' H2 H4]
  · isplitl [H0]; · iexact H0
    isplitl [H0']; · iexact H0'
    isplitl [H2]; · iexact H2
    iexact H4
  isplitl [H1 H1' H3 H5]
  · isplitl [H1]; · iexact H1
    isplitl [H1']; · iexact H1'
    isplitl [H3]; · iexact H3
    iexact H5
  isplitl [H6]; · iexact H6
  iexact H6'

theorem scr_elim (c : Dev nD) : scr c ⊢ (Pipeline.scopedRest cfg0.spec c : sProp 𝕄) := by
  rw [scopedRest0_eq]
  unfold scr bufs
  iintro ⟨⟨H0, H0', H2, H4⟩, ⟨H1, H1', H3, H5⟩, H6, H6'⟩
  ihave H0 := buf_join true c $$ [H0 H0']
  · isplitl [H0]; · iexact H0
    iexact H0'
  ihave H1 := buf_join false c $$ [H1 H1']
  · isplitl [H1]; · iexact H1
    iexact H1'
  ihave H6 := ws_join c $$ [H6 H6']
  · isplitl [H6]; · iexact H6
    iexact H6'
  isplitl [H0]; · iapply (any_intro c cc0_scratch0); iexact H0
  isplitl [H1]; · iapply (any_intro c cc0_scratch1); iexact H1
  isplitl [H2]; · iapply (any_intro c cc0_scratch2); iexact H2
  isplitl [H3]; · iapply (any_intro c cc0_scratch3); iexact H3
  isplitl [H4]; · iapply (any_intro c cc0_scratch4); iexact H4
  isplitl [H5]; · iapply (any_intro c cc0_scratch5); iexact H5
  iapply (any_intro c cc0_scratch6); iexact H6

/-- The device's arguments and its share of the protocol, the result at its first contents. -/
def start (c : Dev nD) : sProp 𝕄 :=
  iprop(recs m ∗ levAts L lv ∗ (barO c ∗ protoD true c ∗ protoD false c) ∗ locS c ∗ argO c (xOf m c) (wOf m c) ∗ outRest true c 0 ∗ outRest false c 0)
/-- The arguments unchanged, the result computed, the barrier semaphore at rest. -/
def fin (c : Dev nD) : sProp 𝕄 :=
  iprop(semVal (barC c) 0 ∗ argO c (xOf m c) (wOf m c) ∗ owns (c : Thread nD τ) oM fullShare (outV m))

def Φ₀ (c : Dev nD) : sProp 𝕄 := iprop(start m c ∗ scr c)
def Φ₁ (c : Dev nD) : sProp 𝕄 := iprop(fin m c ∗ Pipeline.ownSems0 osem c ∗ scr c)

def dats (_ : Fin 1) (c : Dev nD) : Dat τ (Elt F) ℕ ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem done_zero (h : Bool) (c : Dev nD) : (emp : sProp 𝕄) ⊢ done h c 0 := by
  unfold done; rw [Finset.range_zero, bigSep_empty]; exact .rfl

theorem done_sems (h : Bool) (c : Dev nD) : (done h c 14 : sProp 𝕄)
    ⊢ iprop((bigSep Finset.univ fun k => semVal (sendC h k c) 0) ∗ bigSep Finset.univ fun k => semVal (recvC h k c) 0) := by
  unfold done
  rw [Finset.range_eq_Ico, ← bigSep_Ico_zero, ← bigSep_sep']
  exact Entails.of_eq (bigSep_congr fun k _ => by rw [f14_val])

/-- The kernel's semaphores at rest, put together. -/
theorem ownSems0_intro (c : Dev nD) :
    iprop((done true c 14 ∗ semVal (ackC true c) 0) ∗ (done false c 14 ∗ semVal (ackC false c) 0) ∗ locS c) ⊢ (Pipeline.ownSems0 osem c : sProp 𝕄) := by
  rw [ownSems0_eq]
  simp only [bigSep_bool]
  iintro ⟨⟨Hd, Ha⟩, ⟨Hd', Ha'⟩, Hl⟩
  ihave Hd := done_sems true c $$ Hd
  ihave Hd' := done_sems false c $$ Hd'
  icases Hd with ⟨Hs, Hr⟩
  icases Hd' with ⟨Hs', Hr'⟩
  isplitr [Hl]
  · isplitl [Ha Ha']
    · isplitl [Ha]; · iexact Ha
      iexact Ha'
    isplitl [Hs Hs']
    · isplitl [Hs]; · iexact Hs
      iexact Hs'
    isplitl [Hr]; · iexact Hr
    iexact Hr'
  · iexact Hl

theorem run_device (c : Dev nD) (Q : PUnit.{1} → sProp (MT nD τ sig ℕ (Elt F) ℕ UU ℕ)) (k : Dev nD → Prog (TpuEff nD τ sig (Elt F) Λ₀ Proc.tc) PUnit) :
    run c Q (k c) ⊢ run c Q (.op .deviceId k) :=
  Entails.of_eq (wp_deviceId (Q := Q) (k := k) 𝒱₀ (c : Thread nD τ) none Set.univ).symm
theorem run_mono (c : Dev nD) (Q Q' : PUnit.{1} → sProp (MT nD τ sig ℕ (Elt F) ℕ UU ℕ)) (p : Prog (TpuEff nD τ sig (Elt F) Λ₀ Proc.tc) PUnit)
    (h : ∀ a, Q a ⊢ Q' a) : run c Q p ⊢ run c Q' p :=
  wp_mono _ _ _ h
theorem run_ret (c : Dev nD) (Q : PUnit.{1} → sProp (MT nD τ sig ℕ (Elt F) ℕ UU ℕ)) : Q ⟨⟩ ⊢ run c Q (.ret ⟨⟩) := fupd_intro

/-- The body, from what a device starts with to what it ends with. -/
theorem body_run (c : Dev nD) :
    iprop(Φ₀ m c ∗ Ow c (O₀ c)) ⊢ run c (fun _ => iprop(Φ₁ m c ∗ Ow c 0)) staged := by
  unfold Φ₀ start scr bufs
  rw [locS_eq]
  iintro ⟨⟨⟨#HR, #Hl, ⟨Hb, Hp, Hp'⟩, ⟨⟨Hx, Hx'⟩, ⟨Hw, Hw'⟩, Hz, Hz'⟩, Harg, Ho, Ho'⟩, ⟨Hf0, Hf1, Hloc, Hxr⟩, ⟨Hf0', Hf1', Hloc', Hxr'⟩, Hw0, Hw1⟩, HO⟩
  unfold protoD
  icases Hp with ⟨Hxf, Hg, Hk⟩
  icases Hp' with ⟨Hxf', Hg', Hk'⟩
  unfold staged
  iapply (run_device c _ fun d => half1 d (half2 d (.ret ⟨⟩)))
  iapply (run_half1 m _) $$ [HO Hb Hx Hx' Hw Hw' Harg Hf0 Hf1 Hloc Hxr Hf0' Hf1' Hloc' Hxr' Hw0 Hw1 Hxf Hg Hk Hxf' Hg' Hk']
  · isplitr; · iexact HR
    isplitr; · iexact Hl
    isplitl [HO]; · iexact HO
    isplitl [Hb]; · iexact Hb
    isplitl [Hx Hx' Hw Hw' Harg Hloc Hloc' Hxr Hxr' Hw0 Hw1]
    · unfold locals
      isplitl [Harg]; · iexact Harg
      isplitl [Hx Hx' Hw Hw' Hxr Hxr' Hw0 Hw1]
      · isplitl [Hxr]; · iexact Hxr
        isplitl [Hxr']; · iexact Hxr'
        isplitl [Hw0]; · iexact Hw0
        isplitl [Hw1]; · iexact Hw1
        isplitl [Hx]; · iexact Hx
        isplitl [Hx']; · iexact Hx'
        isplitl [Hw]; · iexact Hw
        iexact Hw'
      isplitl [Hloc]; · iexact Hloc
      iexact Hloc'
    unfold startD
    isplitl [Hxf Hg Hk Hf0 Hf1]
    · isplitl [Hxf]; · iexact Hxf
      isplitr; · iapply (done_zero true c); iempintro
      isplitl [Hg]; · iexact Hg
      isplitl [Hk]; · iexact Hk
      isplitl [Hf0]; · iexact Hf0
      iexact Hf1
    · isplitl [Hxf']; · iexact Hxf'
      isplitr; · iapply (done_zero false c); iempintro
      isplitl [Hg']; · iexact Hg'
      isplitl [Hk']; · iexact Hk'
      isplitl [Hf0']; · iexact Hf0'
      iexact Hf1'
  iintro ⟨HO, Hb, Hlocs, Hm, Hm'⟩
  iapply (run_half2 m _) $$ [HO Hm Hm' Ho Ho' Hz Hz']
  · isplitr; · iexact HR
    isplitr; · iexact Hl
    isplitl [HO]; · iexact HO
    isplitl [Hm Ho Hz]
    · isplitl [Hm]; · iexact Hm
      isplitl [Ho]; · iexact Ho
      iexact Hz
    isplitl [Hm']; · iexact Hm'
    isplitl [Ho']; · iexact Ho'
    iexact Hz'
  unfold endD locals
  iintro ⟨HO, ⟨Hd, Ha, Hf0, Hf1, Ho, Hz⟩, Hd', Ha', Hf0', Hf1', Ho', Hz'⟩
  icases Hlocs with ⟨Harg, ⟨Hxr, Hxr', Hw0, Hw1, Hx, Hx', Hw, Hw'⟩, Hloc, Hloc'⟩
  ihave Hout := out_join m c $$ [Ho Ho']
  · isplitl [Ho]; · iexact Ho
    iexact Ho'
  iapply (run_ret c)
  unfold Φ₁ fin scr bufs
  isplitr [HO]
  · isplitl [Hb Harg Hout]
    · isplitl [Hb]; · iexact Hb
      isplitl [Harg]; · iexact Harg
      iexact Hout
    isplitl [Hd Ha Hd' Ha' Hx Hx' Hw Hw' Hz Hz']
    · iapply (ownSems0_intro c)
      isplitl [Hd Ha]
      · isplitl [Hd]; · iexact Hd
        iexact Ha
      isplitl [Hd' Ha']
      · isplitl [Hd']; · iexact Hd'
        iexact Ha'
      iapply (Entails.of_eq (locS_eq (F := F) c).symm)
      isplitl [Hx Hx']
      · isplitl [Hx]; · iexact Hx
        iexact Hx'
      isplitl [Hw Hw']
      · isplitl [Hw]; · iexact Hw
        iexact Hw'
      isplitl [Hz]; · iexact Hz
      iexact Hz'
    isplitl [Hf0 Hf1 Hloc Hxr]
    · isplitl [Hf0]; · iexact Hf0
      isplitl [Hf1]; · iexact Hf1
      isplitl [Hloc]; · iexact Hloc
      iexact Hxr
    isplitl [Hf0' Hf1' Hloc' Hxr']
    · isplitl [Hf0']; · iexact Hf0'
      isplitl [Hf1']; · iexact Hf1'
      isplitl [Hloc']; · iexact Hloc'
      iexact Hxr'
    isplitl [Hw0]; · iexact Hw0
    iexact Hw1
  · iexact HO

theorem call_eq (t : Fin cfg0.N) : defs₀ (F := F) .tc cfg0.body (cfg0.bodyArgs t (cfg0.slots t)) = staged := (show _ = bodyAt0 t from rfl).trans (body_eq t)

theorem body_obligation (c : Dev nD) : BodyObligation (dats m 0 c) (defs₀ (F := F)) 𝒱₀ 0 Set.univ := fun t => by
  rw [call_eq, fin_N0 t]
  have hb := body_run m c
  revert hb
  generalize (staged (F := F)) = p
  intro hb
  refine BIBase.Entails.trans (BIBase.Entails.trans ?_ hb) (run_mono c _ _ p fun _ => ?_)
  · rw [show (dats m 0 c).Φ t0_0.castSucc = Φ₀ m c from rfl]
    iintro ⟨HΦ, ⟨%W, %hW, HO⟩, -⟩
    isplitl [HΦ]; · iexact HΦ
    iexists W; iexact HO
  · rw [show (dats m 0 c).Φ t0_0.succ = Φ₁ m c from rfl]
    iintro ⟨HΦ, ⟨%W, HO⟩⟩
    isplitl [HΦ]; · iexact HΦ
    isplitl [HO]
    · iexists W
      isplitr; · ipureintro; exact fun _ _ => Or.inl trivial
      iexact HO
    rw [Finset.univ_eq_empty, bigSep_empty]
    iempintro

/-! ## The launch -/

theorem x_elim (c : Dev nD) : ((c : Thread nD τ).loc main_arg0 ↦{fullShare} m ((c : Thread nD τ).loc main_arg0) : sProp 𝕄)
    ⊢ iprop(owns (c : Thread nD τ) xM fullShare.left (xOf m c) ∗ owns (c : Thread nD τ) xM fullShare.right (xOf m c)) :=
  (whole_elim c main_arg0 (xOf m c)).trans (owns_halves (c : Thread nD τ) xM fullShare (xOf m c)).1

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq]
  unfold G' start
  iintro ⟨⟨Hx, Hw, Ho⟩, Hlev, Hcr, -, #HR, Hloc, Hpos, Hpay⟩
  ihave Hp := proto_intro m c $$ [Hcr Hpos Hpay]
  · isplitr; · iexact HR
    isplitl [Hpos]; · iexact Hpos
    isplitl [Hpay]; · iexact Hpay
    iexact Hcr
  ihave Hx := x_elim m c $$ Hx
  icases Hx with ⟨Hx, Hx'⟩
  ihave Hw := whole_elim c main_arg1 (m ((c : Thread nD τ).loc main_arg1)) $$ Hw
  ihave Ho := whole_elim c main_v1 (m ((c : Thread nD τ).loc main_v1)) $$ Ho
  ihave Ho := out_split c (m ((c : Thread nD τ).loc main_v1)) $$ Ho
  icases Ho with ⟨Ho, Ho'⟩
  imodintro
  isplitl
  · isplitr; · iexact HR
    isplitl [Hlev]; · iexact Hlev
    isplitl [Hp]; · iexact Hp
    isplitl [Hloc]; · iexact Hloc
    isplitl [Hx Hx' Hw]
    · isplitl [Hx]; · iexact Hx
      isplitl [Hx']; · iexact Hx'
      iexact Hw
    isplitl [Ho]; · iexact Ho
    iexact Ho'
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_intro c); iexact Hr

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl]
  unfold Φ₁
  iintro ⟨Hf, Ho, Hs⟩
  isplitl [Hf]; · iexact Hf
  isplitl [Ho]; · iexact Ho
  iapply (scr_elim c); iexact Hs

theorem waits (c : Dev nD) : (levAts L lv : sProp 𝕄) ⊢ Pipeline.cellsWaits cfgs (dats m) 0 0 c :=
  Pipeline.cellsWaits_intro cfgs (dats m) 0 0 c fun w s t => w.elim0

/-- What a device's memory holds at the end. -/
def ends (c : Dev nD) (s : MemSt nD τ sig (Elt F)) : Prop :=
  s.mem ((c : Thread nD τ).loc main_v1) = outV m
    ∧ s.mem ((c : Thread nD τ).loc main_arg0) = m ((c : Thread nD τ).loc main_arg0) ∧ s.mem ((c : Thread nD τ).loc main_arg1) = m ((c : Thread nD τ).loc main_arg1)

theorem read_whole (b : Ref sig .tc) (c : Dev nD) (f : b.ty.Contents (Elt F)) (s : Phys nD τ sig (Elt F)) :
    iprop(SI s ∗ owns (c : Thread nD τ) (Memref.whole b) fullShare f) ⊢ (⌜s.mem.mem ((c : Thread nD τ).loc b) = f⌝ : sProp 𝕄) := by
  rw [owns_whole]
  iintro H
  ihave %h := SI_pointsTo_agree $$ H
  ipureintro
  exact funext fun i => h i (Finset.mem_univ i)

theorem fin_read (c : Dev nD) (s : Phys nD τ sig (Elt F)) :
    iprop(fin m c ∗ emp ∗ SI s) ⊢ (|={Set.univ}=> iprop(⌜(∀ sm : SemLoc sig, sm.isScoped .tc = false → s.mem.sem ((c : Thread nD τ), sm) = 0) ∧ ends m c s.mem⌝ ∗ SI s) : sProp 𝕄) := by
  unfold fin
  iintro ⟨⟨Hb, ⟨Hx, Hx', Hw⟩, Ho⟩, -, HSI⟩
  ihave Hx := (owns_halves (c : Thread nD τ) xM fullShare (xOf m c)).2 $$ [Hx Hx']
  · isplitl [Hx]; · iexact Hx
    iexact Hx'
  ihave %hx := read_whole main_arg0 c (xOf m c) s $$ [HSI Hx]
  · isplitl [HSI]; · iexact HSI
    iexact Hx
  ihave %hw := read_whole main_arg1 c (wOf m c) s $$ [HSI Hw]
  · isplitl [HSI]; · iexact HSI
    iexact Hw
  ihave %ho := read_whole main_v1 c (outV m) s $$ [HSI Ho]
  · isplitl [HSI]; · iexact HSI
    iexact Ho
  ihave Hb := (Entails.of_eq (unscopedSems0_eq (F := F) c).symm) $$ Hb
  imod (Pipeline.unscopedSems0_read (X := unscopedSems0 c) (c := c) fupd_intro s) $$ [Hb HSI] with ⟨%hs, HSI⟩
  · isplitl [Hb]; · iexact Hb
    iexact HSI
  imodintro
  isplitr
  · ipureintro; exact ⟨hs, ho, hx, hw⟩
  · iexact HSI

set_option maxRecDepth 100000 in
/-- From any memory with its semaphores at rest, every fair run of the eight devices ends, with the result array of each
    at `outV`, the arguments unchanged and every semaphore at rest. -/
theorem run_main : θ_run defs (onTc (τ := τ) (main (F := F))) ⟨m, fun _ => 0, ρ⟩ (fun r => (∀ c, ends m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := fun c s => (∀ sm : SemLoc sig, sm.isScoped .tc = false → s.sem ((c : Thread nD τ), sm) = 0) ∧ ends m c s)
    (hY := fin_read m)
    (hQ := fun _ h hs => ⟨fun c => (h c).2.2.2, sem_eq_zero hs fun c => (h c).2.2.1⟩)

end Cert.KernelIdeal.Ring

end
-- ==== Proof.KernelIdealEquation.lean ====
/- The result at the ideal values: each entry is the activation of the whole contraction, the ring's partial sums being
   the contraction's eight parts in the order in which the ring visits the devices. -/
module

public import proofs.«01_k».proof.Proof.KernelIdealOut
public import Idealize.ShloMosaic.Lib.MatmulPlain
public import Idealize.ShloMosaic.Lib.Layout

@[expose] public section

set_option maxRecDepth 16384

noncomputable section

namespace Cert.KernelIdeal.Ring

open Idealize.ShloMosaic Idealize.ShloMosaic.TcCoe Idealize.ShloMosaic.ValueIdx Idealize.SL.Sem
open Cert.KernelIdeal.Gen

/-! ## One device's product -/

/-- The product printed for a column tile is the plain matrix product. -/
theorem tile_dims : dot_S256x512_S512x2048_S256x2048_1_0_0_1_n_n = DotDims.plain 256 512 2048 := rfl

/-- The product with a column tile, at an entry. -/
theorem prodT_entry (w : Vec Ideal S512x8192 .f32) (x : Vec Ideal S256x512 .f32) (j : Fin 4) (r : Fin 256) (l : Fin 2048) :
    prodT (colSlab w j) x (ix2 r l) = ∑ k : Fin 512, x (ix2 r k) * colTile w j (ix2 k l) := by
  unfold prodT colSlab matmul
  rw [shapeCast_shapeCast, tile_dims]
  refine (Ideal.matmul_plain_apply none x (colTile w j) _ r l).trans ?_
  show Ideal.ofBits .f32 0x00000000#32 + _ = _
  rw [Ideal.ofBits_zero_f32, zero_add]

/-- The product with the whole weight block, at an entry. -/
theorem prodRows_entry (w : Vec Ideal S512x8192 .f32) (x : Vec Ideal S256x512 .f32) (r : Fin 256) (q : Fin 8192) :
    prodRows w x (ix2 r q) = ∑ k : Fin 512, x (ix2 r k) * w (ix2 k q) := by
  have hi : inTile (ix2 r q) = ix2 r ⟨q.val % 2048, Nat.mod_lt _ (by decide)⟩ := Shape.idx_ext₂ rfl rfl
  unfold prodRows
  rw [hi, prodT_entry]
  refine Finset.sum_congr rfl fun k _ => congrArg (x (ix2 r k) * ·) ?_
  refine congrArg w (Shape.idx_ext₂ ?_ ?_)
  · show 0 + 1 * k.val = k.val
    omega
  · show 2048 * (q.val / 2048) + 1 * (q.val % 2048) = q.val
    omega

variable (m : (ℓ : Loc nD τ sig) → Buf (Elt Ideal) ℓ)

/-- A device's part of entry `(row, col)` of the whole product. -/
def part (row : Fin 4096) (col : Fin 8192) (d : Dev nD) : EReal := ∑ k : Fin 512, xOf m d (ix2 row k) * wOf m d (ix2 k col)

theorem rows_part (d : Dev nD) (off : Fin 2 → ℕ) (hb : ∀ a, off a + S256x512.size a ≤ S4096x512.size a) (o : ℕ) (ho : off = ![o, 0])
    (r : Fin 256) (col : Fin 8192) (row : Fin 4096) (hrow : row.val = o + r.val) :
    prodRows (wOf m d) (rowsAt (xOf m d) off hb) (ix2 r col) = part m row col d := by
  subst ho
  rw [prodRows_entry]
  refine Finset.sum_congr rfl fun k _ => congrArg (· * wOf m d (ix2 k col)) ?_
  refine congrArg (xOf m d) (Shape.idx_ext₂ ?_ ?_)
  · show o + 1 * r.val = row.val
    omega
  · show 0 + 1 * k.val = k.val
    omega

/-! ## Once around the ring -/

/-- The rows that the device `j` places back along a direction takes, as its share of the sum for a chunk. -/
theorem off0_ring : ∀ (h : Bool) (q : Fin 8), off0 h ((peer (!h))^[7] (devOf h q.val)) = ![512 * q.val + half h, 0] := by decide +kernel
theorem offS_ring : ∀ (h : Bool) (q : Fin 8) (s : Fin 7), offS h ((peer (!h))^[6 - s.val] (devOf h q.val)) s = ![512 * q.val + half h, 0] := by
  decide +kernel

/-- The ring visits every device once. -/
theorem once_around : ∀ (h : Bool) (c : Dev nD), Function.Bijective fun j : Fin 8 => (peer (!h))^[j.val] c := by decide +kernel

/-- A partial sum is the sum of the shares of the devices visited, each the value of `g` there. -/
theorem acc_sum (h : Bool) (i : S256x8192.Idx) (g : Dev nD → EReal) : ∀ (k : ℕ) (c : Dev nD),
    own0 m h ((peer (!h))^[k] c) i = g ((peer (!h))^[k] c) →
    (∀ s < k, ownS m h (f7 s) ((peer (!h))^[k - 1 - s] c) i = g ((peer (!h))^[k - 1 - s] c)) →
    acc m h k c i = ∑ j ∈ Finset.range (k + 1), g ((peer (!h))^[j] c)
  | 0, c, h0, _ => h0.trans (Finset.sum_range_one fun j => g ((peer (!h))^[j] c)).symm
  | k + 1, c, h0, hS => by
    have hS' : ∀ s < k, ownS m h (f7 s) ((peer (!h))^[k - 1 - s] (peer (!h) c)) i = g ((peer (!h))^[k - 1 - s] (peer (!h) c)) := fun s hs => by
      have e := hS s (by omega)
      rwa [show k + 1 - 1 - s = (k - 1 - s) + 1 by omega] at e
    have hk := hS k (by omega)
    rw [show k + 1 - 1 - k = 0 by omega] at hk
    rw [Finset.sum_range_succ']
    exact congrArg₂ (· + ·) (acc_sum h i g k (peer (!h) c) h0 hS') hk

/-- The final sum for half a chunk, at an entry: all eight devices' parts. -/
theorem acc_entry (h : Bool) (q : Fin 8) (r : Fin 256) (col : Fin 8192) (row : Fin 4096) (hrow : row.val = 512 * q.val + half h + r.val) :
    acc m h 7 (devOf h q.val) (ix2 r col) = ∑ d : Dev nD, part m row col d := by
  rw [acc_sum m h (ix2 r col) (part m row col) 7 (devOf h q.val) (rows_part m _ _ _ _ (off0_ring h q) r col row hrow)
    (fun s hs => by
      obtain ⟨s, rfl⟩ : ∃ t : Fin 7, t.val = s := ⟨⟨s, hs⟩, rfl⟩
      rw [f7_val]
      exact rows_part m _ _ _ _ (offS_ring h q s) r col row hrow),
    Finset.sum_range]
  exact (once_around h (devOf h q.val)).sum_comp (part m row col)

/-! ## The activation -/

/-- The activation of one entry. -/
def act (y : EReal) : EReal :=
  Ideal.ofBits .f32 0x3F000000#32 * y * (Ideal.ofBits .f32 0x3F800000#32 +
    Ideal.tanh (Ideal.ofBits .f32 0x3F4C422A#32 * (y + Ideal.ofBits .f32 0x3D372713#32 * (y * y * y))))

theorem gelu_entry (y : FVec Ideal S256x8192 .f32) (i : S256x8192.Idx) : gelu y i = act (y i) := by
  unfold act
  rw [← mul_assoc (Ideal.ofBits .f32 0x3D372713#32), ← mul_assoc (Ideal.ofBits .f32 0x3D372713#32)]
  rfl

/-- An entry of the result is the activation of the eight parts' sum. -/
theorem outV_entry (row : Fin 4096) (col : Fin 8192) : outV m (ix2 row col) = act (∑ d : Dev nD, part m row col d) := by
  have hr : row.val < 4096 := row.isLt
  unfold outV
  rw [gelu_entry]
  refine congrArg act ?_
  have hi : inHalf (ix2 row col) = ix2 ⟨row.val % 256, Nat.mod_lt _ (by decide)⟩ col := Shape.idx_ext₂ rfl rfl
  rw [hi]
  refine acc_entry m (dirOf (ix2 row col)) ⟨row.val / 512, by omega⟩ ⟨row.val % 256, _⟩ col row ?_
  show row.val = 512 * (row.val / 512) + (if decide (row.val % 512 < 256) = true then 0 else 256) + row.val % 256
  by_cases hlt : row.val % 512 < 256
  · rw [if_pos (decide_eq_true hlt)]; omega
  · rw [if_neg (by rw [decide_eq_false hlt]; decide)]; omega

/-! ## The whole product -/

/-- The eight parts, each over a device's block of the contracted axis, are the contraction over the whole axis. -/
theorem parts_whole (X : Vec Ideal ⟨2, ![4096, 4096]⟩ .f32) (W : Vec Ideal ⟨2, ![4096, 8192]⟩ .f32)
    (hX : ∀ d : Dev nD, xOf m d = Layout.block ⟨2, ![4096, 512]⟩ ⟨2, ![4096, 4096]⟩ 1 8 d X)
    (hW : ∀ d : Dev nD, wOf m d = Layout.block ⟨2, ![512, 8192]⟩ ⟨2, ![4096, 8192]⟩ 0 8 d W) (row : Fin 4096) (col : Fin 8192) :
    ∑ d : Dev nD, part m row col d = ∑ k : Fin 4096, X (ix2 row k) * W (ix2 k col) := by
  rw [← Equiv.sum_comp (finProdFinEquiv (m := 8) (n := 512)), Fintype.sum_prod_type]
  refine Finset.sum_congr rfl fun d _ => Finset.sum_congr rfl fun k _ => ?_
  rw [hX d, hW d, Layout.block_apply, Layout.block_apply]
  refine congrArg₂ (fun i j => X i * W j) (Shape.idx_ext₂ rfl ?_) (Shape.idx_ext₂ ?_ rfl)
  · show d.val * 512 + k.val = k.val + 512 * d.val
    omega
  · show d.val * 512 + k.val = k.val + 512 * d.val
    omega

end Cert.KernelIdeal.Ring

end
-- ==== Proof.ReferenceIdealEquation.lean ====
/- The reference at the ideal values: each entry is the activation of the contraction. -/
module

public import proofs.«01_k».proof.Proof.Gen.ReferenceIdeal.Run
public import proofs.«01_k».proof.Proof.KernelIdealEquation
public import Idealize.ShloMosaic.Lib.StackMember

@[expose] public section

set_option maxRecDepth 16384

noncomputable section

namespace Cert.ReferenceIdeal.Equation

open Idealize.ShloMosaic Idealize.ShloMosaic.TcCoe Idealize.ShloMosaic.ValueIdx Idealize.SL.Sem
open Cert.ReferenceIdeal.Gen
open Cert.KernelIdeal.Ring (act)

/-- The product printed is the plain matrix product. -/
theorem whole_dims : dot_S4096x4096_S4096x8192_S4096x8192_1_0_0_1_n_n = DotDims.plain 4096 4096 8192 := rfl

/-- The whole product, at an entry. -/
theorem dot_entry (X : FVec Ideal S4096x4096 .f32) (W : FVec Ideal S4096x8192 .f32) (row : Fin 4096) (col : Fin 8192) :
    Host.dotGeneral dot_S4096x4096_S4096x8192_S4096x8192_1_0_0_1_n_n none X W (ix2 row col) = ∑ k : Fin 4096, X (ix2 row k) * W (ix2 k col) := by
  rw [whole_dims]
  exact StackMember.dotGeneral_plain_apply none X W row col

/-- The reference's result, of its product. -/
def epilogue (D : FVec Ideal S4096x8192 .f32) : FVec Ideal S4096x8192 .f32 :=
  mulf (mulf (broadcastInDim S4096x8192 ![] bcast_S_S4096x8192 (constant S_ .f32 0x3F000000#32)) D)
    (addf (broadcastInDim S4096x8192 ![] bcast_S_S4096x8192 (constant S_ .f32 0x3F800000#32))
      (Host.tanh (mulf (broadcastInDim S4096x8192 ![] bcast_S_S4096x8192 (constant S_ .f32 0x3F4C422A#32))
        (addf D (mulf (broadcastInDim S4096x8192 ![] bcast_S_S4096x8192 (constant S_ .f32 0x3D372713#32)) (mulf (mulf D D) D))))))

theorem epilogue_entry (D : FVec Ideal S4096x8192 .f32) (i : S4096x8192.Idx) : epilogue D i = act (D i) := rfl

variable (m' : (ℓ : Loc nD τ sig) → Buf (Elt Ideal) ℓ)

/-- The reference's result. -/
def refV : FVec Ideal S4096x8192 .f32 :=
  epilogue (Host.dotGeneral (φ₁ := .f32) (φ₂ := .f32) dot_S4096x4096_S4096x8192_S4096x8192_1_0_0_1_n_n none
    (m' (((0 : Dev nD) : Thread nD τ).loc main_arg0)) (m' (((0 : Dev nD) : Thread nD τ).loc main_arg1)))

/-- The reference ends with it, its arguments unchanged. -/
theorem run_value (ρ : Dev nD → PrngReg) :
    θ_run defs (onTc (τ := τ) (main (F := Ideal))) ⟨m', fun _ => 0, ρ⟩ fun r =>
      r.2.mem (((0 : Dev nD) : Thread nD τ).loc main_v13) = refV m'
      ∧ r.2.mem (((0 : Dev nD) : Thread nD τ).loc main_arg0) = m' (((0 : Dev nD) : Thread nD τ).loc main_arg0)
      ∧ r.2.mem (((0 : Dev nD) : Thread nD τ).loc main_arg1) = m' (((0 : Dev nD) : Thread nD τ).loc main_arg1) :=
  (θ_run defs _ _).mono (fun _ h => h 0) (Cert.ReferenceIdeal.Value.run (F := Ideal) m' ρ)

/-- From arguments that are the devices' blocks of the reference's, the kernel's result is the reference's. -/
theorem outV_eq (m : (ℓ : Loc Cert.KernelIdeal.nD Cert.KernelIdeal.τ Cert.KernelIdeal.sig) → Buf (Elt Ideal) ℓ)
    (hX : ∀ d : Dev Cert.KernelIdeal.nD, Cert.KernelIdeal.Ring.xOf m d
      = Layout.block ⟨2, ![4096, 512]⟩ ⟨2, ![4096, 4096]⟩ 1 8 d (m' (((0 : Dev nD) : Thread nD τ).loc main_arg0)))
    (hW : ∀ d : Dev Cert.KernelIdeal.nD, Cert.KernelIdeal.Ring.wOf m d
      = Layout.block ⟨2, ![512, 8192]⟩ ⟨2, ![4096, 8192]⟩ 0 8 d (m' (((0 : Dev nD) : Thread nD τ).loc main_arg1))) :
    Cert.KernelIdeal.Ring.outV m = refV m' := by
  funext i
  obtain ⟨row, col, rfl⟩ : ∃ (row : Fin 4096) (col : Fin 8192), i = ix2 row col := ⟨i 0, i 1, eq_ix2 i⟩
  rw [Cert.KernelIdeal.Ring.outV_entry, Cert.KernelIdeal.Ring.parts_whole m _ _ hX hW]
  unfold refV
  rw [epilogue_entry, dot_entry]

end Cert.ReferenceIdeal.Equation

end
-- ==== Proof.lean ====
/- The certificate assembled: the frames of the kernel, of the idealized kernel and of the reference, and the equation of
   the idealized kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.ReferenceIdealEquation
public import Idealize.ShloMosaic.Adequacy
public import Idealize.ShloMosaic.Init

@[expose] public section

noncomputable section

namespace Cert.Proof

open Idealize.ShloMosaic Idealize.SL.Sem

/-- The kernel runs, its arguments unchanged and every semaphore at rest at the end. -/
theorem frame_p : Cert.quiescent_Kernel := fun m ρ _ =>
  (θ_run Cert.Kernel.defs _ _).mono (fun _ h => ⟨fun c => (h.1 c).2, h.2⟩) (Cert.Kernel.Ring.run_main (F := Bits) m ρ)

/-- So does the idealized kernel. -/
theorem frame_pi : Cert.quiescent_KernelIdeal := fun m ρ _ =>
  (θ_run Cert.KernelIdeal.defs _ _).mono (fun _ h => ⟨fun c => (h.1 c).2, h.2⟩) (Cert.KernelIdeal.Ring.run_main (F := Ideal) m ρ)

/-- So does the reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the reference's arguments, every device ends with the reference's result. -/
theorem value : Cert.algebraic_KernelIdeal_ReferenceIdeal := fun m ρ m' ρ' _ hm =>
  ⟨Cert.ReferenceIdeal.Equation.refV m',
    (θ_run Cert.KernelIdeal.defs _ _).mono
      (fun _ h c => ⟨(h.1 c).1.trans (Cert.ReferenceIdeal.Equation.outV_eq m' m (fun d => (hm d).1) (fun d => (hm d).2)), (h.1 c).2⟩)
      (Cert.KernelIdeal.Ring.run_main (F := Ideal) m ρ),
    Cert.ReferenceIdeal.Equation.run_value m' ρ'⟩

theorem claim : Cert.Claim := ⟨Cert.Kernel.Gen.facts, Cert.KernelIdeal.Gen.facts, Cert.ReferenceIdeal.Gen.facts, frame_p, frame_pi, frame_ri, trivial, value⟩

end Cert.Proof

end
